-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "eps" .bf16 0x3728#16 ((2748779 / 274877906944 : ℝ) : EReal)
  ∧ IdealRules.named_const.Statement Cert.KernelIdeal.κ "eps" .f32 0x3727C5AC#32 ((2748779 / 274877906944 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 384]⟩ ⟨2, ![768, 1536]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 384]⟩ ⟨2, ![768, 1536]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 384]⟩ ⟨2, ![768, 1536]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![384, 768]⟩ ⟨2, ![1536, 768]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![768, 768]⟩ ⟨2, ![768, 3072]⟩ 1 4 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![768, 768]⟩ ⟨2, ![3072, 768]⟩ 0 4 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v93) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x384 : Shape := ⟨2, ![768, 384]⟩
abbrev S384x768 : Shape := ⟨2, ![384, 768]⟩
abbrev S2x128 : Shape := ⟨2, ![2, 128]⟩
abbrev S128x4608 : Shape := ⟨2, ![128, 4608]⟩
abbrev S768x768 : Shape := ⟨2, ![768, 768]⟩
abbrev S1024x768 : Shape := ⟨2, ![1024, 768]⟩
abbrev S512x768 : Shape := ⟨2, ![512, 768]⟩
abbrev S256x768 : Shape := ⟨2, ![256, 768]⟩
abbrev S8 : Shape := ⟨1, ![8]⟩
abbrev S_ : Shape := ⟨0, ![]⟩
abbrev S2x4608 : Shape := ⟨2, ![2, 4608]⟩
abbrev S2x768 : Shape := ⟨2, ![2, 768]⟩
abbrev S2x1x768 : Shape := ⟨3, ![2, 1, 768]⟩
abbrev S2x512 : Shape := ⟨2, ![2, 512]⟩
abbrev S2x512x1 : Shape := ⟨3, ![2, 512, 1]⟩
abbrev S1024x384 : Shape := ⟨2, ![1024, 384]⟩
abbrev S512x96 : Shape := ⟨2, ![512, 96]⟩
abbrev S512x512 : Shape := ⟨2, ![512, 512]⟩
abbrev S512 : Shape := ⟨1, ![512]⟩
abbrev S512x1 : Shape := ⟨2, ![512, 1]⟩
abbrev S512x384 : Shape := ⟨2, ![512, 384]⟩
abbrev S1 : Shape := ⟨1, ![1]⟩
abbrev S256x384 : Shape := ⟨2, ![256, 384]⟩

abbrev nBuf : Space → Nat
  | .hbm => 10
  | .vmem => 13
  | .smem => 0
  | _ => 0

abbrev bufTy : (tb : Table) → Fin (tcTables nBuf tb) → BufTy
  | .hbm, ⟨0, _⟩ => ⟨S2x512x768, .bf16⟩
  | .hbm, ⟨1, _⟩ => ⟨S768x384, .bf16⟩
  | .hbm, ⟨2, _⟩ => ⟨S768x384, .bf16⟩
  | .hbm, ⟨3, _⟩ => ⟨S768x384, .bf16⟩
  | .hbm, ⟨4, _⟩ => ⟨S384x768, .bf16⟩
  | .hbm, ⟨5, _⟩ => ⟨S2x128, .bf16⟩
  | .hbm, ⟨6, _⟩ => ⟨S128x4608, .bf16⟩
  | .hbm, ⟨7, _⟩ => ⟨S768x768, .bf16⟩
  | .hbm, ⟨8, _⟩ => ⟨S768x768, .bf16⟩
  | .hbm, ⟨9, _⟩ => ⟨S2x512x768, .f32⟩
  | .local _ .vmem, ⟨0, _⟩ => ⟨S2x512x768, .bf16⟩
  | .local _ .vmem, ⟨1, _⟩ => ⟨S768x384, .bf16⟩
  | .local _ .vmem, ⟨2, _⟩ => ⟨S768x384, .bf16⟩
  | .local _ .vmem, ⟨3, _⟩ => ⟨S768x384, .bf16⟩
  | .local _ .vmem, ⟨4, _⟩ => ⟨S384x768, .bf16⟩
  | .local _ .vmem, ⟨5, _⟩ => ⟨S2x128, .bf16⟩
  | .local _ .vmem, ⟨6, _⟩ => ⟨S128x4608, .bf16⟩
  | .local _ .vmem, ⟨7, _⟩ => ⟨S768x768, .bf16⟩
  | .local _ .vmem, ⟨8, _⟩ => ⟨S768x768, .bf16⟩
  | .local _ .vmem, ⟨9, _⟩ => ⟨S2x512x768, .f32⟩
  | .local _ .vmem, ⟨10, _⟩ => ⟨S1024x768, .bf16⟩
  | .local _ .vmem, ⟨11, _⟩ => ⟨S512x768, .bf16⟩
  | .local _ .vmem, ⟨12, _⟩ => ⟨S256x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_6 : BitVec 32 := 1#32
  let v15 : BitVec 32 := Scalar.muli v3 c1_i32_6
  let v16 : BitVec 32 := Scalar.addi c0_i32 v15
  v16.toNat
def k0_dev2 (d0 : Dev nD) : Nat :=
  let c0_i32_9 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_8 : BitVec 32 := 1#32
  let v17 : BitVec 32 := Scalar.muli v4 c1_i32_8
  let v18 : BitVec 32 := Scalar.addi c0_i32_9 v17
  v18.toNat
def k0_off1 (d0 : Dev nD) : Fin 2 → Nat :=
  let c1_i32_77 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let v8 : BitVec 32 := Scalar.extui v7
  let v251 : BitVec 32 := Scalar.subi c1_i32_77 v8
  let c512_i32 : BitVec 32 := 512#32
  let v252 : BitVec 32 := Scalar.muli v251 c512_i32
  let c0_i32_86 : BitVec 32 := 0#32
  ![v252.toNat, 0]
def k0_dev3 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_82 : BitVec 32 := 1#32
  let v255 : BitVec 32 := Scalar.muli v3 c1_i32_82
  let v256 : BitVec 32 := Scalar.addi c0_i32_83 v255
  v256.toNat
def k0_off2 (d0 : Dev nD) : Fin 2 → Nat :=
  let c1_i32_78 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3 : BitVec 32 := 2#32
  let v11 : BitVec 1 := Scalar.cmpi .sge v2 c2_i32_3
  let v12 : BitVec 32 := Scalar.extui v11
  let v253 : BitVec 32 := Scalar.subi c1_i32_78 v12
  let c512_i32_79 : BitVec 32 := 512#32
  let v254 : BitVec 32 := Scalar.muli v253 c512_i32_79
  let c384_i32_92 : BitVec 32 := 384#32
  ![v254.toNat, 384]
def k0_dev4 (d0 : Dev nD) : Nat :=
  let c0_i32_90 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_89 : BitVec 32 := 1#32
  let v263 : BitVec 32 := Scalar.muli v4 c1_i32_89
  let v264 : BitVec 32 := Scalar.addi c0_i32_90 v263
  v264.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let v8 : BitVec 32 := Scalar.extui v7
  let c512_i32_119 : BitVec 32 := 512#32
  let v291 : BitVec 32 := Scalar.muli v8 c512_i32_119
  let v292 : Index := Scalar.indexCast v291
  let c0_120 : Index := 0#32
  ![v292.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3 : BitVec 32 := 2#32
  let v11 : BitVec 1 := Scalar.cmpi .sge v2 c2_i32_3
  let v12 : BitVec 32 := Scalar.extui v11
  let c512_i32_125 : BitVec 32 := 512#32
  let v304 : BitVec 32 := Scalar.muli v12 c512_i32_125
  let v305 : Index := Scalar.indexCast v304
  let c384 : Index := 384#32
  ![v305.toNat, 384]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let v8 : BitVec 32 := Scalar.extui v7
  let c512_i32_130 : BitVec 32 := 512#32
  let v317 : BitVec 32 := Scalar.muli v8 c512_i32_130
  let c1_i32_131 : BitVec 32 := 1#32
  let c2_i32_2 : BitVec 32 := 2#32
  let v9 : BitVec 1 := Scalar.cmpi .sge v2 c2_i32_2
  let v10 : BitVec 32 := Scalar.extui v9
  let v318 : BitVec 32 := Scalar.subi c1_i32_131 v10
  let c256_i32 : BitVec 32 := 256#32
  let v319 : BitVec 32 := Scalar.muli v318 c256_i32
  let v320 : BitVec 32 := Scalar.addi v317 v319
  let c0_i32_141 : BitVec 32 := 0#32
  ![v320.toNat, 0]
def k0_dev5 (d0 : Dev nD) : Nat :=
  let c0_i32_138 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_137 : BitVec 32 := 1#32
  let v325 : BitVec 32 := Scalar.muli v4 c1_i32_137
  let v326 : BitVec 32 := Scalar.addi c0_i32_138 v325
  v326.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3 : BitVec 32 := 2#32
  let v11 : BitVec 1 := Scalar.cmpi .sge v2 c2_i32_3
  let v12 : BitVec 32 := Scalar.extui v11
  let c512_i32_132 : BitVec 32 := 512#32
  let v321 : BitVec 32 := Scalar.muli v12 c512_i32_132
  let c1_i32_133 : BitVec 32 := 1#32
  let c1_i32_4 : BitVec 32 := 1#32
  let v13 : BitVec 32 := Scalar.andi v2 c1_i32_4
  let v322 : BitVec 32 := Scalar.subi c1_i32_133 v13
  let c256_i32_134 : BitVec 32 := 256#32
  let v323 : BitVec 32 := Scalar.muli v322 c256_i32_134
  let v324 : BitVec 32 := Scalar.addi v321 v323
  let c384_i32_147 : BitVec 32 := 384#32
  ![v324.toNat, 384]
def k0_dev6 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_143 : BitVec 32 := 1#32
  let v333 : BitVec 32 := Scalar.muli v3 c1_i32_143
  let v334 : BitVec 32 := Scalar.addi c0_i32_144 v333
  v334.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let v8 : BitVec 32 := Scalar.extui v7
  let c512_i32_174 : BitVec 32 := 512#32
  let v361 : BitVec 32 := Scalar.muli v8 c512_i32_174
  let c2_i32_2 : BitVec 32 := 2#32
  let v9 : BitVec 1 := Scalar.cmpi .sge v2 c2_i32_2
  let v10 : BitVec 32 := Scalar.extui v9
  let c256_i32_175 : BitVec 32 := 256#32
  let v362 : BitVec 32 := Scalar.muli v10 c256_i32_175
  let v363 : BitVec 32 := Scalar.addi v361 v362
  let v364 : Index := Scalar.indexCast v363
  let c0_176 : Index := 0#32
  ![v364.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3 : BitVec 32 := 2#32
  let v11 : BitVec 1 := Scalar.cmpi .sge v2 c2_i32_3
  let v12 : BitVec 32 := Scalar.extui v11
  let c512_i32_180 : BitVec 32 := 512#32
  let v375 : BitVec 32 := Scalar.muli v12 c512_i32_180
  let c1_i32_4 : BitVec 32 := 1#32
  let v13 : BitVec 32 := Scalar.andi v2 c1_i32_4
  let c256_i32_181 : BitVec 32 := 256#32
  let v376 : BitVec 32 := Scalar.muli v13 c256_i32_181
  let v377 : BitVec 32 := Scalar.addi v375 v376
  let v378 : Index := Scalar.indexCast v377
  let c384_182 : Index := 384#32
  ![v378.toNat, 384]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let v8 : BitVec 32 := Scalar.extui v7
  let c512_i32_186 : BitVec 32 := 512#32
  let v389 : BitVec 32 := Scalar.muli v8 c512_i32_186
  let c2_i32_2 : BitVec 32 := 2#32
  let v9 : BitVec 1 := Scalar.cmpi .sge v2 c2_i32_2
  let v10 : BitVec 32 := Scalar.extui v9
  let c256_i32_187 : BitVec 32 := 256#32
  let v390 : BitVec 32 := Scalar.muli v10 c256_i32_187
  let v391 : BitVec 32 := Scalar.addi v389 v390
  let c0_i32_194 : BitVec 32 := 0#32
  ![v391.toNat, 0]
def k0_dev7 (d0 : Dev nD) : Nat :=
  let c0_i32_193 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_192 : BitVec 32 := 1#32
  let v395 : BitVec 32 := Scalar.muli v4 c1_i32_192
  let v396 : BitVec 32 := Scalar.addi c0_i32_193 v395
  v396.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3 : BitVec 32 := 2#32
  let v11 : BitVec 1 := Scalar.cmpi .sge v2 c2_i32_3
  let v12 : BitVec 32 := Scalar.extui v11
  let c512_i32_188 : BitVec 32 := 512#32
  let v392 : BitVec 32 := Scalar.muli v12 c512_i32_188
  let c1_i32_4 : BitVec 32 := 1#32
  let v13 : BitVec 32 := Scalar.andi v2 c1_i32_4
  let c256_i32_189 : BitVec 32 := 256#32
  let v393 : BitVec 32 := Scalar.muli v13 c256_i32_189
  let v394 : BitVec 32 := Scalar.addi v392 v393
  let c384_i32_199 : BitVec 32 := 384#32
  ![v394.toNat, 384]
def k0_dev8 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_197 : BitVec 32 := 1#32
  let v403 : BitVec 32 := Scalar.muli v3 c1_i32_197
  let v404 : BitVec 32 := Scalar.addi c0_i32_198 v403
  v404.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 1 := Scalar.cmpi .eq v2 c1_i32_1
  let c2_i32 : BitVec 32 := 2#32
  let v6 : BitVec 1 := Scalar.cmpi .eq v2 c2_i32
  let v7 : BitVec 1 := Scalar.ori v5 v6
  let v8 : BitVec 32 := Scalar.extui v7
  let c512_i32_224 : BitVec 32 := 512#32
  let v432 : BitVec 32 := Scalar.muli v8 c512_i32_224
  let c0_i32_231 : BitVec 32 := 0#32
  ![v432.toNat, 0]
def k0_dev9 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_229 : BitVec 32 := 1#32
  let v435 : BitVec 32 := Scalar.muli v3 c1_i32_229
  let v436 : BitVec 32 := Scalar.addi c0_i32_230 v435
  v436.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3 : BitVec 32 := 2#32
  let v11 : BitVec 1 := Scalar.cmpi .sge v2 c2_i32_3
  let v12 : BitVec 32 := Scalar.extui v11
  let c512_i32_226 : BitVec 32 := 512#32
  let v434 : BitVec 32 := Scalar.muli v12 c512_i32_226
  let c384_i32_236 : BitVec 32 := 384#32
  ![v434.toNat, 384]
def k0_dev10 (d0 : Dev nD) : Nat :=
  let c0_i32_235 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_234 : BitVec 32 := 1#32
  let v443 : BitVec 32 := Scalar.muli v4 c1_i32_234
  let v444 : BitVec 32 := Scalar.addi c0_i32_235 v443
  v444.toNat
def k0_dev11 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_278 : BitVec 32 := 1#32
  let v521 : BitVec 32 := Scalar.muli v3 c1_i32_278
  let v522 : BitVec 32 := Scalar.addi c0_i32_279 v521
  v522.toNat
def k0_dev12 (d0 : Dev nD) : Nat :=
  let c0_i32_282 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_281 : BitVec 32 := 1#32
  let v523 : BitVec 32 := Scalar.muli v4 c1_i32_281
  let v524 : BitVec 32 := Scalar.addi c0_i32_282 v523
  v524.toNat
def k0_dev13 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_293 : BitVec 32 := 1#32
  let v533 : BitVec 32 := Scalar.muli v3 c1_i32_293
  let v534 : BitVec 32 := Scalar.addi c0_i32_294 v533
  v534.toNat
def k0_dev14 (d0 : Dev nD) : Nat :=
  let c0_i32_301 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_300 : BitVec 32 := 1#32
  let v541 : BitVec 32 := Scalar.muli v4 c1_i32_300
  let v542 : BitVec 32 := Scalar.addi c0_i32_301 v541
  v542.toNat
def k0_dev15 (d0 : Dev nD) : Nat :=
  let c0_i32_352 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_351 : BitVec 32 := 1#32
  let v603 : BitVec 32 := Scalar.muli v4 c1_i32_351
  let v604 : BitVec 32 := Scalar.addi c0_i32_352 v603
  v604.toNat
def k0_dev16 (d0 : Dev nD) : Nat :=
  let c0_i32_359 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_358 : BitVec 32 := 1#32
  let v611 : BitVec 32 := Scalar.muli v3 c1_i32_358
  let v612 : BitVec 32 := Scalar.addi c0_i32_359 v611
  v612.toNat
def k0_dev17 (d0 : Dev nD) : Nat :=
  let c0_i32_408 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_407 : BitVec 32 := 1#32
  let v673 : BitVec 32 := Scalar.muli v4 c1_i32_407
  let v674 : BitVec 32 := Scalar.addi c0_i32_408 v673
  v674.toNat
def k0_dev18 (d0 : Dev nD) : Nat :=
  let c0_i32_414 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_413 : BitVec 32 := 1#32
  let v681 : BitVec 32 := Scalar.muli v3 c1_i32_413
  let v682 : BitVec 32 := Scalar.addi c0_i32_414 v681
  v682.toNat
def k0_dev19 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_445 : BitVec 32 := 1#32
  let v713 : BitVec 32 := Scalar.muli v3 c1_i32_445
  let v714 : BitVec 32 := Scalar.addi c0_i32_446 v713
  v714.toNat
def k0_dev20 (d0 : Dev nD) : Nat :=
  let c0_i32_452 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_451 : BitVec 32 := 1#32
  let v721 : BitVec 32 := Scalar.muli v4 c1_i32_451
  let v722 : BitVec 32 := Scalar.addi c0_i32_452 v721
  v722.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x4608 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelIdeal.lean ====
variable {F : FTy → Type} [FloatOps F] [Named F]
def κ : String → Option EReal := fun
  | "eps" => some ((2748779 / 274877906944 : ℝ) : EReal)
  | _ => none
-- ==== ReferenceIdeal.lean ====
abbrev S2x512x768 : Shape := ⟨3, ![2, 512, 768]⟩
abbrev S768x1536 : Shape := ⟨2, ![768, 1536]⟩
abbrev S1536x768 : Shape := ⟨2, ![1536, 768]⟩
abbrev S2x128 : Shape := ⟨2, ![2, 128]⟩
abbrev S128x4608 : Shape := ⟨2, ![128, 4608]⟩
abbrev S768x3072 : Shape := ⟨2, ![768, 3072]⟩
abbrev S3072x768 : Shape := ⟨2, ![3072, 768]⟩
abbrev S2x4608 : Shape := ⟨2, ![2, 4608]⟩
abbrev S2x768 : Shape := ⟨2, ![2, 768]⟩
abbrev S_ : Shape := ⟨0, ![]⟩
abbrev S2x512 : Shape := ⟨2, ![2, 512]⟩
abbrev S2x512x1 : Shape := ⟨3, ![2, 512, 1]⟩
abbrev S2x1x768 : Shape := ⟨3, ![2, 1, 768]⟩
abbrev S2x512x1536 : Shape := ⟨3, ![2, 512, 1536]⟩
abbrev S2x512x16x96 : Shape := ⟨4, ![2, 512, 16, 96]⟩
abbrev S2x16x512x512 : Shape := ⟨4, ![2, 16, 512, 512]⟩
abbrev S2x16x512 : Shape := ⟨3, ![2, 16, 512]⟩
abbrev S2x16x512x1 : Shape := ⟨4, ![2, 16, 512, 1]⟩
abbrev S2x16x96x512 : Shape := ⟨4, ![2, 16, 96, 512]⟩
abbrev S2x512x16x1 : Shape := ⟨4, ![2, 512, 16, 1]⟩
abbrev S2x512x3072 : Shape := ⟨3, ![2, 512, 3072]⟩

abbrev nBuf : Space → Nat
  | .hbm => 161
  | .vmem => 0
  | .smem => 0
  | _ => 0

abbrev hbmTy0_0 (i : Nat) : BufTy := match i % 128 with
  | 0 => ⟨S2x512x768, .bf16⟩
  | 1 => ⟨S768x1536, .bf16⟩
  | 2 => ⟨S768x1536, .bf16⟩
  | 3 => ⟨S768x1536, .bf16⟩
  | 4 => ⟨S1536x768, .bf16⟩
  | 5 => ⟨S2x128, .bf16⟩
  | 6 => ⟨S128x4608, .bf16⟩
  | 7 => ⟨S768x3072, .bf16⟩
  | 8 => ⟨S3072x768, .bf16⟩
  | 9 => ⟨S2x512x768, .f32⟩
  | 10 => ⟨S768x1536, .f32⟩
  | 11 => ⟨S768x1536, .f32⟩
  | 12 => ⟨S768x1536, .f32⟩
  | 13 => ⟨S1536x768, .f32⟩
  | 14 => ⟨S2x128, .f32⟩
  | 15 => ⟨S128x4608, .f32⟩
  | 16 => ⟨S768x3072, .f32⟩
  | 17 => ⟨S3072x768, .f32⟩
  | 18 => ⟨S2x4608, .f32⟩
  | 19 => ⟨S2x768, .f32⟩
  | 20 => ⟨S2x768, .f32⟩
  | 21 => ⟨S2x768, .f32⟩
  | 22 => ⟨S2x768, .f32⟩
  | 23 => ⟨S2x768, .f32⟩
  | 24 => ⟨S2x768, .f32⟩
  | 25 => ⟨S_, .f32⟩
  | 26 => ⟨S2x512, .f32⟩
  | 27 => ⟨S2x512x1, .f32⟩
  | 28 => ⟨S_, .f32⟩
  | 29 => ⟨S2x512x1, .f32⟩
  | 30 => ⟨S2x512x1, .f32⟩
  | 31 => ⟨S_, .i32⟩
  | 32 => ⟨S_, .f32⟩
  | 33 => ⟨S2x512, .f32⟩
  | 34 => ⟨S2x512x1, .f32⟩
  | 35 => ⟨S_, .f32⟩
  | 36 => ⟨S2x512x1, .f32⟩
  | 37 => ⟨S2x512x1, .f32⟩
  | 38 => ⟨S2x512x768, .f32⟩
  | 39 => ⟨S2x512x768, .f32⟩
  | 40 => ⟨S2x512x768, .f32⟩
  | 41 => ⟨S_, .f32⟩
  | 42 => ⟨S_, .f32⟩
  | 43 => ⟨S_, .f32⟩
  | 44 => ⟨S_, .f32⟩
  | 45 => ⟨S2x512, .f32⟩
  | 46 => ⟨S2x512x1, .f32⟩
  | 47 => ⟨S2x512x1, .f32⟩
  | 48 => ⟨S2x512x1, .f32⟩
  | 49 => ⟨S_, .f32⟩
  | 50 => ⟨S_, .i1⟩
  | 51 => ⟨S_, .f32⟩
  | 52 => ⟨S_, .f32⟩
  | 53 => ⟨S2x512x1, .f32⟩
  | 54 => ⟨S2x512x1, .f32⟩
  | 55 => ⟨S2x512x768, .f32⟩
  | 56 => ⟨S2x512x768, .f32⟩
  | 57 => ⟨S_, .f32⟩
  | 58 => ⟨S2x512x1, .f32⟩
  | 59 => ⟨S2x512x1, .f32⟩
  | 60 => ⟨S2x512x1, .f32⟩
  | 61 => ⟨S2x512x768, .f32⟩
  | 62 => ⟨S2x512x768, .f32⟩
  | 63 => ⟨S2x1x768, .f32⟩
  | 64 => ⟨S_, .f32⟩
  | 65 => ⟨S2x1x768, .f32⟩
  | 66 => ⟨S2x1x768, .f32⟩
  | 67 => ⟨S2x512x768, .f32⟩
  | 68 => ⟨S2x512x768, .f32⟩
  | 69 => ⟨S2x1x768, .f32⟩
  | 70 => ⟨S2x512x768, .f32⟩
  | 71 => ⟨S2x512x768, .f32⟩
  | 72 => ⟨S2x512x1536, .f32⟩
  | 73 => ⟨S2x512x16x96, .f32⟩
  | 74 => ⟨S2x512x1536, .f32⟩
  | 75 => ⟨S2x512x16x96, .f32⟩
  | 76 => ⟨S2x512x1536, .f32⟩
  | 77 => ⟨S2x512x16x96, .f32⟩
  | 78 => ⟨S2x16x512x512, .f32⟩
  | 79 => ⟨S_, .f32⟩
  | 80 => ⟨S2x16x512x512, .f32⟩
  | 81 => ⟨S2x16x512x512, .f32⟩
  | 82 => ⟨S_, .f32⟩
  | 83 => ⟨S2x16x512, .f32⟩
  | 84 => ⟨S2x16x512x1, .f32⟩
  | 85 => ⟨S2x16x512x512, .f32⟩
  | 86 => ⟨S2x16x512x512, .f32⟩
  | 87 => ⟨S2x16x512x512, .f32⟩
  | 88 => ⟨S_, .f32⟩
  | 89 => ⟨S2x16x512, .f32⟩
  | 90 => ⟨S2x16x512x1, .f32⟩
  | 91 => ⟨S2x16x96x512, .f32⟩
  | 92 => ⟨S2x512x16x96, .f32⟩
  | 93 => ⟨S2x512x16x1, .f32⟩
  | 94 => ⟨S2x512x16x96, .f32⟩
  | 95 => ⟨S2x512x16x96, .f32⟩
  | 96 => ⟨S2x512x1536, .f32⟩
  | 97 => ⟨S2x512x768, .f32⟩
  | 98 => ⟨S2x1x768, .f32⟩
  | 99 => ⟨S2x512x768, .f32⟩
  | 100 => ⟨S2x512x768, .f32⟩
  | 101 => ⟨S2x512x768, .f32⟩
  | 102 => ⟨S_, .f32⟩
  | 103 => ⟨S2x512, .f32⟩
  | 104 => ⟨S2x512x1, .f32⟩
  | 105 => ⟨S_, .f32⟩
  | 106 => ⟨S2x512x1, .f32⟩
  | 107 => ⟨S2x512x1, .f32⟩
  | 108 => ⟨S_, .i32⟩
  | 109 => ⟨S_, .f32⟩
  | 110 => ⟨S2x512, .f32⟩
  | 111 => ⟨S2x512x1, .f32⟩
  | 112 => ⟨S_, .f32⟩
  | 113 => ⟨S2x512x1, .f32⟩
  | 114 => ⟨S2x512x1, .f32⟩
  | 115 => ⟨S2x512x768, .f32⟩
  | 116 => ⟨S2x512x768, .f32⟩
  | 117 => ⟨S2x512x768, .f32⟩
  | 118 => ⟨S_, .f32⟩
  | 119 => ⟨S_, .f32⟩
  | 120 => ⟨S_, .f32⟩
  | 121 => ⟨S_, .f32⟩
  | 122 => ⟨S2x512, .f32⟩
  | 123 => ⟨S2x512x1, .f32⟩
  | 124 => ⟨S2x512x1, .f32⟩
  | 125 => ⟨S2x512x1, .f32⟩
  | 126 => ⟨S_, .f32⟩
  | 127 => ⟨S_, .i1⟩
  | _ => ⟨S2x512x768, .bf16⟩

abbrev hbmTy0_1 (i : Nat) : BufTy := match i % 128 with
  | 0 => ⟨S_, .f32⟩
  | 1 => ⟨S_, .f32⟩
  | 2 => ⟨S2x512x1, .f32⟩
  | 3 => ⟨S2x512x1, .f32⟩
  | 4 => ⟨S2x512x768, .f32⟩
  | 5 => ⟨S2x512x768, .f32⟩
  | 6 => ⟨S_, .f32⟩
  | 7 => ⟨S2x512x1, .f32⟩
  | 8 => ⟨S2x512x1, .f32⟩
  | 9 => ⟨S2x512x1, .f32⟩
  | 10 => ⟨S2x512x768, .f32⟩
  | 11 => ⟨S2x512x768, .f32⟩
  | 12 => ⟨S2x1x768, .f32⟩
  | 13 => ⟨S_, .f32⟩
  | 14 => ⟨S2x1x768, .f32⟩
  | 15 => ⟨S2x1x768, .f32⟩
  | 16 => ⟨S2x512x768, .f32⟩
  | 17 => ⟨S2x512x768, .f32⟩
  | 18 => ⟨S2x1x768, .f32⟩
  | 19 => ⟨S2x512x768, .f32⟩
  | 20 => ⟨S2x512x768, .f32⟩
  | 21 => ⟨S2x512x3072, .f32⟩
  | 22 => ⟨S2x512x3072, .f32⟩
  | 23 => ⟨S2x512x3072, .f32⟩
  | 24 => ⟨S_, .f32⟩
  | 25 => ⟨S2x512x3072, .f32⟩
  | 26 => ⟨S2x512x3072, .f32⟩
  | 27 => ⟨S2x512x3072, .f32⟩
  | 28 => ⟨S2x1x768, .f32⟩
  | 29 => ⟨S2x512x768, .f32⟩
  | 30 => ⟨S2x512x768, .f32⟩
  | 31 => ⟨S2x512x768, .f32⟩
  | 32 => ⟨S2x512x768, .f32⟩
  | _ => ⟨S2x512x768, .bf16⟩

abbrev hbmTy (i : Nat) : BufTy := match i / 128 with
  | 0 => hbmTy0_0 i
  | 1 => hbmTy0_1 i
  | _ => ⟨S2x512x768, .bf16⟩

abbrev bufTy : (tb : Table) → Fin (tcTables nBuf tb) → BufTy
  | .hbm, ⟨i, _⟩ => hbmTy i
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_cst_3 : Ref sig .tc := ⟨.hbm, 49, rfl⟩
abbrev main_call0_v13 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_1 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_3 : Ref sig .tc := ⟨.hbm, 79, rfl⟩
abbrev main_v43 : Ref sig .tc := ⟨.hbm, 80, rfl⟩
abbrev main_v44 : Ref sig .tc := ⟨.hbm, 81, rfl⟩
abbrev main_cst_4 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_5 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_6 : Ref sig .tc := ⟨.hbm, 102, rfl⟩
abbrev main_v63 : Ref sig .tc := ⟨.hbm, 103, rfl⟩
abbrev main_v64 : Ref sig .tc := ⟨.hbm, 104, rfl⟩
abbrev main_cst_7 : Ref sig .tc := ⟨.hbm, 105, rfl⟩
abbrev main_v65 : Ref sig .tc := ⟨.hbm, 106, rfl⟩
abbrev main_v66 : Ref sig .tc := ⟨.hbm, 107, rfl⟩
abbrev main_c_8 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_cst_0 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_cst_1 : Ref sig .tc := ⟨.hbm, 119, rfl⟩
abbrev main_call1_v8 : Ref sig .tc := ⟨.hbm, 120, rfl⟩
abbrev main_call1_cst_2 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_call1_v12 : Ref sig .tc := ⟨.hbm, 125, rfl⟩
abbrev main_call1_cst_3 : Ref sig .tc := ⟨.hbm, 126, rfl⟩
abbrev main_call1_v13 : Ref sig .tc := ⟨.hbm, 127, rfl⟩
abbrev main_call1_cst_4 : Ref sig .tc := ⟨.hbm, 128, rfl⟩
abbrev main_call1_call0_v0 : Ref sig .tc := ⟨.hbm, 129, rfl⟩
abbrev main_call1_call0_v1 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_cst_9 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_cst_10 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_cst_11 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩

abbrev nD : Nat := 1
abbrev τ : Topo := Topo.v7x

variable {F : FTy → Type} [FloatOps F]
-- ==== Proof.Mesh.lean ====
/-
# 01_k — the mesh, the pieces of the communication buffers, and what the all-reduce puts in them

Four devices in a butterfly. `pX` exchanges 0↔1 and 2↔3, `pM` exchanges 0↔3 and 1↔2. The 1024 x 768 communication buffer
splits into two column halves ("sub-arrays" 0 and 1); sub-array 0 is reduced over `pX` first and `pM` second, sub-array 1
the other way round. In a sub-array a device owns one half of the rows after the first exchange and one quarter after the second.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.TalkSites
public import Idealize.ShloMosaic.Lib.Tactic
public import Idealize.ShloMosaic.Lib.ViewIndex

@[expose] public section

set_option backward.proofsInPublic true

noncomputable section

namespace Cert.Butterfly

open Cert.KernelIdeal Cert.KernelIdeal.Gen

open Idealize.ShloMosaic
open Idealize.ShloMosaic.TcCoe

/-! ## The mesh -/

/-- The partner across the last bit of the number. -/
def pX (c : Dev nD) : Dev nD := ⟨if c.val % 2 = 0 then c.val + 1 else c.val - 1, by have h : c.val < 4 := c.isLt; show _ < 4; split <;> omega⟩
/-- The partner across the middle of the ring. -/
def pM (c : Dev nD) : Dev nD := ⟨3 - c.val, by have h : c.val < 4 := c.isLt; show _ < 4; omega⟩

/-- The first exchange partner of a sub-array. -/
def p1 (s : Fin 2) (c : Dev nD) : Dev nD := match s with | 0 => pX c | 1 => pM c
/-- The second exchange partner of a sub-array. -/
def p2 (s : Fin 2) (c : Dev nD) : Dev nD := match s with | 0 => pM c | 1 => pX c

/-- Twice across is back. -/
theorem pX_pX (c : Dev nD) : pX (pX c) = c := by revert c; decide
/-- Twice across is back. -/
theorem pM_pM (c : Dev nD) : pM (pM c) = c := by revert c; decide
/-- Twice across is back. -/
theorem p1_p1 (s : Fin 2) (c : Dev nD) : p1 s (p1 s c) = c := by revert s c; decide
/-- Twice across is back. -/
theorem p2_p2 (s : Fin 2) (c : Dev nD) : p2 s (p2 s c) = c := by revert s c; decide

/-- The signals and copies of the kernel are addressed to these partners. -/
theorem dev1_eq (c : Dev nD) (h) : (⟨k0_dev1 c, h⟩ : Dev nD) = pX c := Fin.ext (by revert c; decide +kernel)
/-- Addressed to `pM`. -/
theorem dev2_eq (c : Dev nD) (h) : (⟨k0_dev2 c, h⟩ : Dev nD) = pM c := Fin.ext (by revert c; decide +kernel)
/-- Addressed to `pX`. -/
theorem dev3_eq (c : Dev nD) (h) : (⟨k0_dev3 c, h⟩ : Dev nD) = pX c := Fin.ext (by revert c; decide +kernel)
/-- Addressed to `pM`. -/
theorem dev4_eq (c : Dev nD) (h) : (⟨k0_dev4 c, h⟩ : Dev nD) = pM c := Fin.ext (by revert c; decide +kernel)
/-- Addressed to `pM`. -/
theorem dev5_eq (c : Dev nD) (h) : (⟨k0_dev5 c, h⟩ : Dev nD) = pM c := Fin.ext (by revert c; decide +kernel)
/-- Addressed to `pX`. -/
theorem dev6_eq (c : Dev nD) (h) : (⟨k0_dev6 c, h⟩ : Dev nD) = pX c := Fin.ext (by revert c; decide +kernel)
/-- Addressed to `pM`. -/
theorem dev7_eq (c : Dev nD) (h) : (⟨k0_dev7 c, h⟩ : Dev nD) = pM c := Fin.ext (by revert c; decide +kernel)
/-- Addressed to `pX`. -/
theorem dev8_eq (c : Dev nD) (h) : (⟨k0_dev8 c, h⟩ : Dev nD) = pX c := Fin.ext (by revert c; decide +kernel)
/-- Addressed to `pX`. -/
theorem dev9_eq (c : Dev nD) (h) : (⟨k0_dev9 c, h⟩ : Dev nD) = pX c := Fin.ext (by revert c; decide +kernel)
/-- Addressed to `pM`. -/
theorem dev10_eq (c : Dev nD) (h) : (⟨k0_dev10 c, h⟩ : Dev nD) = pM c := Fin.ext (by revert c; decide +kernel)
/-- Addressed to `pX`. -/
theorem dev11_eq (c : Dev nD) (h) : (⟨k0_dev11 c, h⟩ : Dev nD) = pX c := Fin.ext (by revert c; decide +kernel)
/-- Addressed to `pM`. -/
theorem dev12_eq (c : Dev nD) (h) : (⟨k0_dev12 c, h⟩ : Dev nD) = pM c := Fin.ext (by revert c; decide +kernel)
/-- Addressed to `pX`. -/
theorem dev13_eq (c : Dev nD) (h) : (⟨k0_dev13 c, h⟩ : Dev nD) = pX c := Fin.ext (by revert c; decide +kernel)
/-- Addressed to `pM`. -/
theorem dev14_eq (c : Dev nD) (h) : (⟨k0_dev14 c, h⟩ : Dev nD) = pM c := Fin.ext (by revert c; decide +kernel)
/-- Addressed to `pM`. -/
theorem dev15_eq (c : Dev nD) (h) : (⟨k0_dev15 c, h⟩ : Dev nD) = pM c := Fin.ext (by revert c; decide +kernel)
/-- Addressed to `pX`. -/
theorem dev16_eq (c : Dev nD) (h) : (⟨k0_dev16 c, h⟩ : Dev nD) = pX c := Fin.ext (by revert c; decide +kernel)
/-- Addressed to `pM`. -/
theorem dev17_eq (c : Dev nD) (h) : (⟨k0_dev17 c, h⟩ : Dev nD) = pM c := Fin.ext (by revert c; decide +kernel)
/-- Addressed to `pX`. -/
theorem dev18_eq (c : Dev nD) (h) : (⟨k0_dev18 c, h⟩ : Dev nD) = pX c := Fin.ext (by revert c; decide +kernel)
/-- Addressed to `pX`. -/
theorem dev19_eq (c : Dev nD) (h) : (⟨k0_dev19 c, h⟩ : Dev nD) = pX c := Fin.ext (by revert c; decide +kernel)
/-- Addressed to `pM`. -/
theorem dev20_eq (c : Dev nD) (h) : (⟨k0_dev20 c, h⟩ : Dev nD) = pM c := Fin.ext (by revert c; decide +kernel)

/-! ## The pieces -/

/-- The communication buffer and the two landing buffers. -/
abbrev cM : Memref sig .tc .vmem S1024x768 .bf16 := Memref.whole cc0_scratch0
@[inherit_doc cM] abbrev uM : Memref sig .tc .vmem S512x768 .bf16 := Memref.whole cc0_scratch1
@[inherit_doc cM] abbrev vM : Memref sig .tc .vmem S256x768 .bf16 := Memref.whole cc0_scratch2

/-- Where the half that device `c` keeps of sub-array `s` starts. -/
def hOff (s : Fin 2) (c : Dev nD) : Fin 2 → Nat := match s with | 0 => k0_off3 c | 1 => k0_off4 c
/-- Where the quarter that device `c` keeps of sub-array `s` starts. -/
def qOff (s : Fin 2) (c : Dev nD) : Fin 2 → Nat := match s with | 0 => k0_off7 c | 1 => k0_off8 c
/-- Where the columns of sub-array `s` start in a landing buffer. -/
def uOff (s : Fin 2) : Fin 2 → Nat := match s with | 0 => ![0, 0] | 1 => ![0, 384]

/-- The half is inside the buffer. -/
theorem hOff_inb (s : Fin 2) (c : Dev nD) : ∀ a, hOff s c a + S512x384.size a ≤ S1024x768.size a := by
  match s with | 0 => exact k0_off3_inb c | 1 => exact k0_off4_inb c
/-- The quarter is inside the buffer. -/
theorem qOff_inb (s : Fin 2) (c : Dev nD) : ∀ a, qOff s c a + S256x384.size a ≤ S1024x768.size a := by
  match s with | 0 => exact k0_off7_inb c | 1 => exact k0_off8_inb c
/-- The landing columns are inside the buffer. -/
theorem uOff_inb (s : Fin 2) : ∀ a, uOff s a + S512x384.size a ≤ S512x768.size a := by
  match s with | 0 => exact inb_S512x768_S512x384_0_0 | 1 => exact inb_S512x768_S512x384_0_384
/-- The landing columns are inside the buffer. -/
theorem vOff_inb (s : Fin 2) : ∀ a, uOff s a + S256x384.size a ≤ S256x768.size a := by
  match s with | 0 => exact inb_S256x768_S256x384_0_0 | 1 => exact inb_S256x768_S256x384_0_384

/-- The half of sub-array `s` that device `c` keeps, as a rectangle of the communication buffer. -/
abbrev hR (s : Fin 2) (c : Dev nD) : Rect S1024x768 := Rect.unit (s := S1024x768) (hOff s c) S512x384.size (hOff_inb s c)
/-- The quarter of sub-array `s` that device `c` keeps. -/
abbrev qR (s : Fin 2) (c : Dev nD) : Rect S1024x768 := Rect.unit (s := S1024x768) (qOff s c) S256x384.size (qOff_inb s c)
/-- Where a half of sub-array `s` lands. -/
abbrev uR (s : Fin 2) : Rect S512x768 := Rect.unit (s := S512x768) (uOff s) S512x384.size (uOff_inb s)
/-- Where a quarter of sub-array `s` lands. -/
abbrev vR (s : Fin 2) : Rect S256x768 := Rect.unit (s := S256x768) (uOff s) S256x384.size (vOff_inb s)

/-- The same as memory references. -/
abbrev hM (s : Fin 2) (c : Dev nD) : Memref sig .tc .vmem S512x384 .bf16 := cM.slice (hR s c) (fun _ => rfl)
@[inherit_doc hM] abbrev qM (s : Fin 2) (c : Dev nD) : Memref sig .tc .vmem S256x384 .bf16 := cM.slice (qR s c) (fun _ => rfl)
@[inherit_doc hM] abbrev u1M (s : Fin 2) : Memref sig .tc .vmem S512x384 .bf16 := uM.slice (uR s) (fun _ => rfl)
@[inherit_doc hM] abbrev v1M (s : Fin 2) : Memref sig .tc .vmem S256x384 .bf16 := vM.slice (vR s) (fun _ => rfl)

/-- The kernel's first pair of copies reads the halves its partners keep. -/
theorem off1_eq (c : Dev nD) : k0_off1 c = hOff 0 (p1 0 c) := by revert c; decide +kernel
/-- The same for sub-array 1. -/
theorem off2_eq (c : Dev nD) : k0_off2 c = hOff 1 (p1 1 c) := by revert c; decide +kernel
/-- The second pair reads the quarters its partners keep. -/
theorem off5_eq (c : Dev nD) : k0_off5 c = qOff 0 (p2 0 c) := by revert c; decide +kernel
/-- The same for sub-array 1. -/
theorem off6_eq (c : Dev nD) : k0_off6 c = qOff 1 (p2 1 c) := by revert c; decide +kernel
/-- The third pair sends the quarters kept. -/
theorem off9_eq (c : Dev nD) : k0_off9 c = qOff 0 c := by revert c; decide +kernel
/-- The same for sub-array 1. -/
theorem off10_eq (c : Dev nD) : k0_off10 c = qOff 1 c := by revert c; decide +kernel
/-- The fourth pair sends the halves kept. -/
theorem off11_eq (c : Dev nD) : k0_off11 c = hOff 0 c := by revert c; decide +kernel
/-- The same for sub-array 1. -/
theorem off12_eq (c : Dev nD) : k0_off12 c = hOff 1 c := by revert c; decide +kernel
/-- Across the second exchange a device keeps the same half. -/
theorem hOff_p2 (s : Fin 2) (c : Dev nD) : hOff s (p2 s c) = hOff s c := by revert s c; decide +kernel

/-- The first row of the half. -/
def hRow (s : Fin 2) (c : Dev nD) : ℕ := hOff s c 0
/-- The first row of the quarter. -/
def qRow (s : Fin 2) (c : Dev nD) : ℕ := qOff s c 0

/-- The columns of a sub-array start at 384 times its number. -/
theorem hOff_col (s : Fin 2) (c : Dev nD) : hOff s c 1 = 384 * s.val := by revert s c; decide +kernel
/-- The columns of a sub-array start at 384 times its number. -/
theorem qOff_col (s : Fin 2) (c : Dev nD) : qOff s c 1 = 384 * s.val := by revert s c; decide +kernel
/-- The two partners' halves are the two halves. -/
theorem hRow_pair (s : Fin 2) (c : Dev nD) : (hRow s c = 0 ∧ hRow s (p1 s c) = 512) ∨ (hRow s c = 512 ∧ hRow s (p1 s c) = 0) := by revert s c; decide +kernel
/-- The two partners' quarters are the two quarters of their half. -/
theorem qRow_pair (s : Fin 2) (c : Dev nD) :
    (qRow s c = hRow s c ∧ qRow s (p2 s c) = hRow s c + 256) ∨ (qRow s c = hRow s c + 256 ∧ qRow s (p2 s c) = hRow s c) := by revert s c; decide +kernel

/-- Who is in the half. -/
theorem mem_h {s : Fin 2} {c : Dev nD} {i : S1024x768.Idx} : i ∈ (hM s c).view.set ↔
    (hRow s c ≤ (i 0).val ∧ (i 0).val < hRow s c + 512) ∧ 384 * s.val ≤ (i 1).val ∧ (i 1).val < 384 * s.val + 384 := by
  have e : (hM s c).view.set = (hR s c).set := View.set_slice_whole _ _
  rw [e, Rect.mem_set_unit, Fin.forall_fin_two, hOff_col]; exact Iff.rfl
/-- Who is in the quarter. -/
theorem mem_q {s : Fin 2} {c : Dev nD} {i : S1024x768.Idx} : i ∈ (qM s c).view.set ↔
    (qRow s c ≤ (i 0).val ∧ (i 0).val < qRow s c + 256) ∧ 384 * s.val ≤ (i 1).val ∧ (i 1).val < 384 * s.val + 384 := by
  have e : (qM s c).view.set = (qR s c).set := View.set_slice_whole _ _
  rw [e, Rect.mem_set_unit, Fin.forall_fin_two, qOff_col]; exact Iff.rfl
/-- Who is in the landing columns. -/
theorem mem_u {s : Fin 2} {i : S512x768.Idx} : i ∈ (u1M s).view.set ↔ 384 * s.val ≤ (i 1).val ∧ (i 1).val < 384 * s.val + 384 := by
  have e : (u1M s).view.set = (uR s).set := View.set_slice_whole _ _
  have h0 : (i 0).val < 512 := (i 0).isLt
  rw [e, Rect.mem_set_unit, Fin.forall_fin_two]
  match s with
  | 0 => exact ⟨fun h => h.2, fun h => ⟨⟨Nat.zero_le _, by show (i 0).val < 0 + 512; omega⟩, h⟩⟩
  | 1 => exact ⟨fun h => h.2, fun h => ⟨⟨Nat.zero_le _, by show (i 0).val < 0 + 512; omega⟩, h⟩⟩
/-- Who is in the landing columns. -/
theorem mem_v {s : Fin 2} {i : S256x768.Idx} : i ∈ (v1M s).view.set ↔ 384 * s.val ≤ (i 1).val ∧ (i 1).val < 384 * s.val + 384 := by
  have e : (v1M s).view.set = (vR s).set := View.set_slice_whole _ _
  have h0 : (i 0).val < 256 := (i 0).isLt
  rw [e, Rect.mem_set_unit, Fin.forall_fin_two]
  match s with
  | 0 => exact ⟨fun h => h.2, fun h => ⟨⟨Nat.zero_le _, by show (i 0).val < 0 + 256; omega⟩, h⟩⟩
  | 1 => exact ⟨fun h => h.2, fun h => ⟨⟨Nat.zero_le _, by show (i 0).val < 0 + 256; omega⟩, h⟩⟩

/-- A sub-array's columns are the two partners' halves. -/
theorem h_disj (s : Fin 2) (c : Dev nD) : Disjoint (hM s c).view.set (hM s (p1 s c)).view.set := Finset.disjoint_left.mpr fun i h h' => by
  have h := mem_h.mp h; have h' := mem_h.mp h'; have := hRow_pair s c; omega
/-- A half is the two partners' quarters. -/
theorem q_disj (s : Fin 2) (c : Dev nD) : Disjoint (qM s c).view.set (qM s (p2 s c)).view.set := Finset.disjoint_left.mpr fun i h h' => by
  have h := mem_q.mp h; have h' := mem_q.mp h'; have := qRow_pair s c; omega
/-- A half is the two partners' quarters. -/
theorem q_union (s : Fin 2) (c : Dev nD) : (qM s c).view.set ∪ (qM s (p2 s c)).view.set = (hM s c).view.set := Finset.ext fun i => by
  rw [Finset.mem_union, mem_q, mem_q, mem_h]; have := qRow_pair s c; omega
/-- The two sub-arrays do not meet. -/
theorem sub_disj (c : Dev nD) : Disjoint ((hM 0 c).view.set ∪ (hM 0 (p1 0 c)).view.set) ((hM 1 c).view.set ∪ (hM 1 (p1 1 c)).view.set) :=
  Finset.disjoint_left.mpr fun i h h' => by
    rw [Finset.mem_union, mem_h, mem_h] at h h'
    simp only [Fin.val_zero, Fin.val_one] at h h'; omega
/-- The two sub-arrays are the buffer. -/
theorem sub_union (c : Dev nD) : ((hM 0 c).view.set ∪ (hM 0 (p1 0 c)).view.set) ∪ ((hM 1 c).view.set ∪ (hM 1 (p1 1 c)).view.set)
    = (Finset.univ : Finset S1024x768.Idx) := Finset.ext fun i => by
  have h0 : (i 0).val < 1024 := (i 0).isLt
  have h1 : (i 1).val < 768 := (i 1).isLt
  have := hRow_pair 0 c; have := hRow_pair 1 c
  rw [Finset.mem_union, Finset.mem_union, Finset.mem_union, mem_h, mem_h, mem_h, mem_h]
  simp only [Fin.val_zero, Fin.val_one, Finset.mem_univ, iff_true]; omega
/-- The landing buffer's two column halves do not meet. -/
theorem u_disj : Disjoint (u1M 0).view.set (u1M 1).view.set := Finset.disjoint_left.mpr fun i h h' => by
  have h := mem_u.mp h; have h' := mem_u.mp h'; simp only [Fin.val_zero, Fin.val_one] at h h'; omega
/-- And are the buffer. -/
theorem u_union : (u1M 0).view.set ∪ (u1M 1).view.set = (Finset.univ : Finset S512x768.Idx) := Finset.ext fun i => by
  have h1 : (i 1).val < 768 := (i 1).isLt
  rw [Finset.mem_union, mem_u, mem_u]; simp only [Fin.val_zero, Fin.val_one, Finset.mem_univ, iff_true]; omega
/-- The landing buffer's two column halves do not meet. -/
theorem v_disj : Disjoint (v1M 0).view.set (v1M 1).view.set := Finset.disjoint_left.mpr fun i h h' => by
  have h := mem_v.mp h; have h' := mem_v.mp h'; simp only [Fin.val_zero, Fin.val_one] at h h'; omega
/-- And are the buffer. -/
theorem v_union : (v1M 0).view.set ∪ (v1M 1).view.set = (Finset.univ : Finset S256x768.Idx) := Finset.ext fun i => by
  have h1 : (i 1).val < 768 := (i 1).isLt
  rw [Finset.mem_union, mem_v, mem_v]; simp only [Fin.val_zero, Fin.val_one, Finset.mem_univ, iff_true]; omega
/-- Across the second exchange the half is the same piece. -/
theorem hM_p2 (s : Fin 2) (c : Dev nD) : (hM s (p2 s c)).view.set = (hM s c).view.set := Finset.ext fun i => by
  rw [mem_h, mem_h]; unfold hRow; rw [hOff_p2]

/-! ## The contents -/

section Contents

variable {F : FTy → Type} [FloatOps F] [Named F]

variable (F) in
/-- Contents of the communication buffer and of the landing buffers. -/
abbrev CB : Type := (cc0_scratch0 : Ref sig .tc).ty.Contents (Elt F)
variable (F) in
@[inherit_doc CB] abbrev UBf : Type := (cc0_scratch1 : Ref sig .tc).ty.Contents (Elt F)
variable (F) in
@[inherit_doc CB] abbrev VBf : Type := (cc0_scratch2 : Ref sig .tc).ty.Contents (Elt F)

/-- Two bf16 entries added in f32 and rounded back. -/
def acc (a b : F .bf16) : F .bf16 := FloatOps.truncf .bf16 bitsLt_bf16_f32 (FloatOps.addf (FloatOps.extf .f32 bitsLt_bf16_f32 a) (FloatOps.extf .f32 bitsLt_bf16_f32 b))

variable (P : Dev nD → CB F)

/-- After the first exchange: a device's own entry and its first partner's. -/
def A1 (c : Dev nD) : CB F := fun i : S1024x768.Idx =>
  if (i 1).val < 384 then acc (P c i) (P (pX c) i) else acc (P c i) (P (pM c) i)
/-- After the second exchange: a device's sum and its second partner's. -/
def A2 (c : Dev nD) : CB F := fun i : S1024x768.Idx =>
  if (i 1).val < 384 then acc (A1 P c i) (A1 P (pM c) i) else acc (A1 P c i) (A1 P (pX c) i)
/-- The device that keeps the quarter an index is in. -/
def owner (i : S1024x768.Idx) : Dev nD :=
  if (i 1).val < 384 then (if (i 0).val < 256 then (0 : Fin 4) else if (i 0).val < 512 then (3 : Fin 4) else if (i 0).val < 768 then (1 : Fin 4) else (2 : Fin 4))
  else (if (i 0).val < 256 then (0 : Fin 4) else if (i 0).val < 512 then (1 : Fin 4) else if (i 0).val < 768 then (2 : Fin 4) else (3 : Fin 4))
/-- After all four exchanges, the same on every device. -/
def AF : CB F := fun i : S1024x768.Idx => A2 P (owner i) i

/-- The quarters a device keeps, by number. -/
theorem qRow_lit : ∀ c : Dev nD, (qRow 0 c = 256 * (if c.val = 0 then 0 else if c.val = 1 then 2 else if c.val = 2 then 3 else 1)) ∧ qRow 1 c = 256 * c.val := by
  decide +kernel

/-- On a kept quarter the keeper is the owner. -/
theorem owner_of_mem {s : Fin 2} {c : Dev nD} {i : S1024x768.Idx} (h : i ∈ (qM s c).view.set) : owner i = c := by
  have h := mem_q.mp h
  have hl := qRow_lit c
  have hc : c.val < 4 := c.isLt
  unfold owner
  match s with
  | 0 =>
    rw [hl.1] at h
    simp only [Fin.val_zero] at h
    rw [if_pos (by omega)]
    refine Fin.ext ?_
    have h4 : c.val = 0 ∨ c.val = 1 ∨ c.val = 2 ∨ c.val = 3 := by omega
    rcases h4 with h4 | h4 | h4 | h4 <;> rw [h4] at h ⊢ <;> simp only [if_true, if_false, reduceCtorEq, OfNat.ofNat_ne_zero, one_ne_zero, OfNat.ofNat_ne_one, Nat.reduceEqDiff] at h
    · rw [if_pos (by omega)]; rfl
    · rw [if_neg (by omega), if_neg (by omega), if_pos (by omega)]; rfl
    · rw [if_neg (by omega), if_neg (by omega), if_neg (by omega)]; rfl
    · rw [if_neg (by omega), if_pos (by omega)]; rfl
  | 1 =>
    rw [hl.2] at h
    simp only [Fin.val_one] at h
    rw [if_neg (by omega)]
    refine Fin.ext ?_
    have h4 : c.val = 0 ∨ c.val = 1 ∨ c.val = 2 ∨ c.val = 3 := by omega
    rcases h4 with h4 | h4 | h4 | h4 <;> rw [h4] at h ⊢
    · rw [if_pos (by omega)]; rfl
    · rw [if_neg (by omega), if_pos (by omega)]; rfl
    · rw [if_neg (by omega), if_neg (by omega), if_pos (by omega)]; rfl
    · rw [if_neg (by omega), if_neg (by omega), if_neg (by omega)]; rfl

/-- On sub-array `s` the first sum is with the first partner. -/
theorem A1_of {s : Fin 2} {c : Dev nD} {i : S1024x768.Idx} (h : 384 * s.val ≤ (i 1).val ∧ (i 1).val < 384 * s.val + 384) :
    A1 P c i = acc (P c i) (P (p1 s c) i) := by
  unfold A1
  match s with
  | 0 => rw [if_pos (by simp only [Fin.val_zero] at h; omega)]; rfl
  | 1 => rw [if_neg (by simp only [Fin.val_one] at h; omega)]; rfl
/-- On sub-array `s` the second sum is with the second partner. -/
theorem A2_of {s : Fin 2} {c : Dev nD} {i : S1024x768.Idx} (h : 384 * s.val ≤ (i 1).val ∧ (i 1).val < 384 * s.val + 384) :
    A2 P c i = acc (A1 P c i) (A1 P (p2 s c) i) := by
  unfold A2
  match s with
  | 0 => rw [if_pos (by simp only [Fin.val_zero] at h; omega)]; rfl
  | 1 => rw [if_neg (by simp only [Fin.val_one] at h; omega)]; rfl
/-- On a kept quarter the final contents are the keeper's second sum. -/
theorem AF_of {s : Fin 2} {c : Dev nD} {i : S1024x768.Idx} (h : i ∈ (qM s c).view.set) : AF P i = A2 P c i := by
  unfold AF; rw [owner_of_mem h]

end Contents

end Cert.Butterfly

end
-- ==== Proof.Proto.lean ====
/-
# 01_k — the protocol of the two all-reduces

Per device: one barrier cell, eight send cells and eight receive cells, each with a round per all-reduce (rounds 0 and 1).

* barrier, round `r`: one unit from each of the two partners. A partner hands over the landing columns that this device's
  first two copies to it write, and the fact that its receive cells are at round `r`.
* receive cell of exchange 0: the partner's rounded partial sum, landed; and, so that it can be overwritten later, the
  partner's own copy of that half. With it the fact that the partner's barrier cell is past round `r`.
* receive cell of exchange 1: the same for the quarter and the partner's first sum.
* receive cells of exchanges 2 and 3: the quarter and the half holding the finished sum.
* send cells: nothing for exchanges 0 and 1 (the source goes to the receiver), the source back for exchanges 2 and 3.
-/
module

public import proofs.«01_k».proof.Proof.Mesh
public import Idealize.ShloMosaic.Lib.Pipeline.SiteBlocks

@[expose] public section

set_option backward.proofsInPublic true

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The rounds' copy (keys: cells, duties: a bit). -/
abbrev UB : Type := URounds (GSem nD τ sig) Bool
/-- The pipeline's copy and the rounds'. -/
abbrev UU : Type := UR sig nD τ × UB

local notation "𝕄" => MT nD τ sig ℕ (Elt F) ℕ UU ℕ

/-- The pipeline's component. -/
abbrev EP : Emb (UR sig nD τ) (MT nD τ sig ℕ (Elt F) ℕ UU ℕ) := embL
/-- The rounds' component. -/
abbrev ER : Emb UB (MT nD τ sig ℕ (Elt F) ℕ UU ℕ) := embR

/-! ## The cells -/

/-- The runtime's barrier semaphore. -/
abbrev barS : Sem sig := (SemArray.scalar (sig.barrier 0 rfl) : Sems sig S_).sem

/-- Number of the semaphore of sub-array `s`, exchange `k`. -/
def semNo (s : Fin 2) (k : Fin 4) : Fin 8 := ⟨4 * s.val + k.val, by omega⟩
/-- The number is inside the array. -/
theorem semNo_inb (s : Fin 2) (k : Fin 4) : ∀ a : Fin 1, (![(semNo s k).val] : Fin 1 → Nat) a + S1.size a ≤ S8.size a := by
  revert s k; decide
/-- The send semaphore of sub-array `s`, exchange `k`. -/
abbrev sndS (s : Fin 2) (k : Fin 4) : DmaSem sig := ((cc0_scratch3.slice (Rect.unit (s := S8) ![(semNo s k).val] S1.size (semNo_inb s k))).squeeze S_ squeezes_S1_S_).sem
/-- The receive semaphore of sub-array `s`, exchange `k`. -/
abbrev rcvS (s : Fin 2) (k : Fin 4) : DmaSem sig := ((cc0_scratch4.slice (Rect.unit (s := S8) ![(semNo s k).val] S1.size (semNo_inb s k))).squeeze S_ squeezes_S1_S_).sem

/-- A device's cells: the barrier, or a DMA cell (`false` send, `true` receive). -/
abbrev CK : Type := Option (Bool × Fin 2 × Fin 4)
/-- The semaphore of a cell. -/
def csem : CK → SemLoc sig
  | none => .reg barS
  | some (false, s, k) => .dma (sndS s k)
  | some (true, s, k) => .dma (rcvS s k)
/-- All the cells of a device. -/
def cks : List CK := [none,
  some (false, 0, 0), some (false, 0, 1), some (false, 0, 2), some (false, 0, 3), some (false, 1, 0), some (false, 1, 1), some (false, 1, 2), some (false, 1, 3),
  some (true, 0, 0), some (true, 0, 1), some (true, 0, 2), some (true, 0, 3), some (true, 1, 0), some (true, 1, 1), some (true, 1, 2), some (true, 1, 3)]
/-- Which cell a semaphore is, if one of these. -/
def kind (sm : SemLoc sig) : Option CK := cks.find? fun k => csem k = sm
/-- The cells' semaphores are different. -/
theorem kind_csem : ∀ k : CK, kind (csem k) = some k := by decide
/-- The cells' semaphores are different. -/
theorem csem_inj {k k' : CK} (h : csem k = csem k') : k = k' := Option.some.inj ((kind_csem k).symm.trans ((congrArg kind h).trans (kind_csem k')))

/-- Device `c`'s cell. -/
abbrev cell (c : Dev nD) (k : CK) : GSem nD τ sig := ((c : Thread nD τ), csem k)
/-- Device `c`'s barrier cell. -/
abbrev barC (c : Dev nD) : GSem nD τ sig := cell c none
/-- Device `c`'s send cell. -/
abbrev sndC (c : Dev nD) (s : Fin 2) (k : Fin 4) : GSem nD τ sig := cell c (some (false, s, k))
/-- Device `c`'s receive cell. -/
abbrev rcvC (c : Dev nD) (s : Fin 2) (k : Fin 4) : GSem nD τ sig := cell c (some (true, s, k))

/-- What a copy of exchange `k` credits. -/
def NN (k : Fin 4) : ℕ := match k with
  | 0 => (u1M 0).view.dmaCredit | 1 => (v1M 0).view.dmaCredit | 2 => (qM 0 0).view.dmaCredit | 3 => (hM 0 0).view.dmaCredit
/-- Not nothing. -/
theorem NN_pos (k : Fin 4) : 0 < NN k := by
  match k with
  | 0 => exact View.dmaCredit_pos _ (by decide)
  | 1 => exact View.dmaCredit_pos _ (by decide)
  | 2 => exact View.dmaCredit_pos _ (by decide)
  | 3 => exact View.dmaCredit_pos _ (by decide)

/-! ## The pieces held -/

/-- On device `d`: the half of sub-array `s` that `c` keeps, at contents `f`. -/
def hP (d : Dev nD) (s : Fin 2) (c : Dev nD) (f : CB F) : sProp 𝕄 := ((d : Thread nD τ).loc cc0_scratch0) ↦[(hM s c).view.set]{fullShare} f
/-- On device `d`: the quarter of sub-array `s` that `c` keeps, at contents `f`. -/
def qP (d : Dev nD) (s : Fin 2) (c : Dev nD) (f : CB F) : sProp 𝕄 := ((d : Thread nD τ).loc cc0_scratch0) ↦[(qM s c).view.set]{fullShare} f
/-- On device `d`: the columns of sub-array `s` of the first landing buffer. -/
def uP (d : Dev nD) (s : Fin 2) (f : UBf F) : sProp 𝕄 := ((d : Thread nD τ).loc cc0_scratch1) ↦[(u1M s).view.set]{fullShare} f
/-- On device `d`: the columns of sub-array `s` of the second landing buffer. -/
def vP (d : Dev nD) (s : Fin 2) (f : VBf F) : sProp 𝕄 := ((d : Thread nD τ).loc cc0_scratch2) ↦[(v1M s).view.set]{fullShare} f

omit [FloatOps F] [Named F] in
instance hP_storable (d : Dev nD) (s : Fin 2) (c : Dev nD) (f) : BI.Storable (upEmb : UEmb _ 𝕄) (hP (F := F) d s c f) := by unfold hP; infer_instance
omit [FloatOps F] [Named F] in
instance qP_storable (d : Dev nD) (s : Fin 2) (c : Dev nD) (f) : BI.Storable (upEmb : UEmb _ 𝕄) (qP (F := F) d s c f) := by unfold qP; infer_instance
omit [FloatOps F] [Named F] in
instance uP_storable (d : Dev nD) (s : Fin 2) (f) : BI.Storable (upEmb : UEmb _ 𝕄) (uP (F := F) d s f) := by unfold uP; infer_instance
omit [FloatOps F] [Named F] in
instance vP_storable (d : Dev nD) (s : Fin 2) (f) : BI.Storable (upEmb : UEmb _ 𝕄) (vP (F := F) d s f) := by unfold vP; infer_instance

/-! ## The payloads -/

/-- What device `p`'s signal hands `pX p`. -/
def handX (r : ℕ) (p : Dev nD) : sProp 𝕄 :=
  iprop((∃ f, uP p 0 f) ∗ (∃ f, vP p 1 f) ∗ reached ER (rcvC p 0 0) r ∗ reached ER (rcvC p 1 1) r ∗ reached ER (rcvC p 1 2) r ∗ reached ER (rcvC p 0 3) r)
/-- What device `p`'s signal hands `pM p`. -/
def handM (r : ℕ) (p : Dev nD) : sProp 𝕄 :=
  iprop((∃ f, uP p 1 f) ∗ (∃ f, vP p 0 f) ∗ reached ER (rcvC p 1 0) r ∗ reached ER (rcvC p 0 1) r ∗ reached ER (rcvC p 0 2) r ∗ reached ER (rcvC p 1 3) r)

variable (P : ℕ → Dev nD → CB F)

/-- What the receive cell of exchange 0 hands device `o`. -/
def rp0 (r : ℕ) (o : Dev nD) (s : Fin 2) : sProp 𝕄 :=
  iprop(∃ f : UBf F, ⌜(u1M s).view.read (Elt F) f = (hM s o).view.read (Elt F) (P r (p1 s o))⌝ ∗ uP o s f
    ∗ hP (p1 s o) s o (P r (p1 s o)) ∗ reached ER (barC (p1 s o)) (r + 1))
/-- What the receive cell of exchange 1 hands device `o`. -/
def rp1 (r : ℕ) (o : Dev nD) (s : Fin 2) : sProp 𝕄 :=
  iprop(∃ f : VBf F, ⌜(v1M s).view.read (Elt F) f = (qM s o).view.read (Elt F) (A1 (P r) (p2 s o))⌝ ∗ vP o s f
    ∗ qP (p2 s o) s o (A1 (P r) (p2 s o)))
/-- What the receive cell of exchange 2 hands device `o`. -/
def rp2 (r : ℕ) (o : Dev nD) (s : Fin 2) : sProp 𝕄 := qP o s (p2 s o) (AF (P r))
/-- What the receive cell of exchange 3 hands device `o`. -/
def rp3 (r : ℕ) (o : Dev nD) (s : Fin 2) : sProp 𝕄 := hP o s (p1 s o) (AF (P r))

/-- What a receive cell hands. -/
def recvPay (r : ℕ) (o : Dev nD) (s : Fin 2) (k : Fin 4) : sProp 𝕄 := match k with
  | 0 => rp0 P r o s | 1 => rp1 P r o s | 2 => rp2 P r o s | 3 => rp3 P r o s
/-- What a send cell hands back. -/
def sendPay (r : ℕ) (c : Dev nD) (s : Fin 2) (k : Fin 4) : sProp 𝕄 := match k with
  | 0 => iprop(emp) | 1 => iprop(emp) | 2 => qP c s c (AF (P r)) | 3 => hP c s c (AF (P r))

/-- What a cell hands its owner for a duty. -/
def payOf (r : ℕ) (c : Dev nD) (d : Bool) : Option CK → sProp 𝕄
  | none => iprop(emp)
  | some none => if d then handX r (pX c) else handM r (pM c)
  | some (some (false, s, k)) => sendPay P r c s k
  | some (some (true, s, k)) => recvPay P r c s k
/-- The units of a duty. -/
def amtOf : Option CK → ℕ
  | none => 1
  | some none => 1
  | some (some (_, _, k)) => NN k
/-- The duties of a round. -/
def dutyOf : Option CK → Finset Bool
  | none => ∅
  | some none => Finset.univ
  | some (some _) => {false}

omit [FloatOps F] [Named F] in
instance handX_storable (r : ℕ) (p : Dev nD) : BI.Storable (upEmb : UEmb _ 𝕄) (handX (F := F) r p) := by unfold handX; infer_instance
omit [FloatOps F] [Named F] in
instance handM_storable (r : ℕ) (p : Dev nD) : BI.Storable (upEmb : UEmb _ 𝕄) (handM (F := F) r p) := by unfold handM; infer_instance
instance recvPay_storable (r : ℕ) (o : Dev nD) (s : Fin 2) (k : Fin 4) : BI.Storable (upEmb : UEmb _ 𝕄) (recvPay P r o s k) := by
  unfold recvPay rp0 rp1 rp2 rp3; split <;> infer_instance
instance sendPay_storable (r : ℕ) (o : Dev nD) (s : Fin 2) (k : Fin 4) : BI.Storable (upEmb : UEmb _ 𝕄) (sendPay P r o s k) := by
  unfold sendPay; split <;> infer_instance

/-- Two rounds. -/
def Rd : Rounds.Schedule (GSem nD τ sig) Bool 𝕄 where
  duties g r := if r < 2 then dutyOf (kind g.2) else ∅
  unitless _ := False
  amount g _ _ := amtOf (kind g.2)
  payload g r d := payOf P r g.1.1 d (kind g.2)
  amount_pos g _ _ _ := by
    unfold amtOf; split
    · exact Nat.one_pos
    · exact Nat.one_pos
    · exact NN_pos _

instance Rd_payload_storable (g : GSem nD τ sig) (r : ℕ) (d : Bool) : BI.Storable (upEmb : UEmb _ 𝕄) ((Rd (F := F) P).payload g r d) := by
  show BI.Storable upEmb (payOf P r g.1.1 d (kind g.2))
  unfold payOf; split
  · infer_instance
  · split <;> infer_instance
  · infer_instance
  · infer_instance

/-- The duties of a barrier's round. -/
theorem duties_bar (c : Dev nD) (r : ℕ) (hr : r < 2) : (Rd P).duties (barC c) r = Finset.univ := by
  dsimp only [Rd]; rw [if_pos hr, kind_csem]; rfl
/-- The one duty of a DMA cell's round. -/
theorem duties_dma (c : Dev nD) (x : Bool × Fin 2 × Fin 4) (r : ℕ) (hr : r < 2) : (Rd P).duties (cell c (some x)) r = {false} := by
  dsimp only [Rd]; rw [if_pos hr, kind_csem]; rfl
/-- No third round. -/
theorem duties_later (g : GSem nD τ sig) : ∀ r, 2 ≤ r → (Rd P).duties g r = ∅ := fun r hr => by
  dsimp only [Rd]; rw [if_neg (by omega)]
/-- A barrier's duty is one unit. -/
theorem amount_bar (c : Dev nD) (r : ℕ) (d : Bool) : (Rd P).amount (barC c) r d = 1 := by
  dsimp only [Rd]; rw [kind_csem]; rfl
/-- A DMA cell's duty is its copy's credit. -/
theorem amount_dma (c : Dev nD) (b : Bool) (s : Fin 2) (k : Fin 4) (r : ℕ) (d : Bool) : (Rd P).amount (cell c (some (b, s, k))) r d = NN k := by
  dsimp only [Rd]; rw [kind_csem]; rfl
/-- A barrier's round is two units. -/
theorem expect_bar (c : Dev nD) (r : ℕ) (hr : r < 2) : (Rd P).expect (barC c) r = 2 := by
  unfold Schedule.expect Schedule.amountOf
  rw [duties_bar P c r hr, Finset.sum_congr rfl fun d _ => amount_bar P c r d, Finset.sum_const, Finset.card_univ, Fintype.card_bool, smul_eq_mul]
/-- A DMA cell's round is its copy's credit. -/
theorem expect_dma (c : Dev nD) (b : Bool) (s : Fin 2) (k : Fin 4) (r : ℕ) (hr : r < 2) : (Rd P).expect (cell c (some (b, s, k))) r = NN k := by
  unfold Schedule.expect Schedule.amountOf; rw [duties_dma P c _ r hr, Finset.sum_singleton, amount_dma]
/-- What the first partner's signal brings. -/
theorem payload_barX (c : Dev nD) (r : ℕ) : (Rd P).payload (barC c) r true = handX r (pX c) := by
  dsimp only [Rd]; rw [kind_csem]; rfl
/-- What the second partner's signal brings. -/
theorem payload_barM (c : Dev nD) (r : ℕ) : (Rd P).payload (barC c) r false = handM r (pM c) := by
  dsimp only [Rd]; rw [kind_csem]; rfl
/-- What a send cell hands back. -/
theorem payload_send (c : Dev nD) (s : Fin 2) (k : Fin 4) (r : ℕ) (d : Bool) : (Rd P).payload (sndC c s k) r d = sendPay P r c s k := by
  dsimp only [Rd]; rw [kind_csem]; rfl
/-- What a receive cell hands. -/
theorem payload_recv (c : Dev nD) (s : Fin 2) (k : Fin 4) (r : ℕ) (d : Bool) : (Rd P).payload (rcvC c s k) r d = recvPay P r c s k := by
  dsimp only [Rd]; rw [kind_csem]; rfl
/-- The whole of a barrier's round. -/
theorem rest_bar (c : Dev nD) (r : ℕ) (hr : r < 2) :
    bigSep ((Rd P).duties (barC c) r \ ∅) (fun d => (Rd P).payload (barC c) r d) = iprop(handM r (pM c) ∗ handX r (pX c)) := by
  rw [Finset.sdiff_empty, duties_bar P c r hr, bigSep_univ_eq_bigSepL [false, true] (by decide) (by decide), bigSepL_cons_cons, bigSepL_singleton,
    payload_barX, payload_barM]; rfl
/-- The whole of a DMA cell's round. -/
theorem rest_dma (c : Dev nD) (x : Bool × Fin 2 × Fin 4) (r : ℕ) (hr : r < 2) :
    bigSep ((Rd P).duties (cell c (some x)) r \ ∅) (fun d => (Rd P).payload (cell c (some x)) r d) = (Rd P).payload (cell c (some x)) r false := by
  rw [Finset.sdiff_empty, duties_dma P c x r hr, bigSep_singleton]

/-! ## What is owed, and the levels -/

open Idealize.ShloMosaic.TalkSites (Pay tallyL tallyL_pos)

/-- A due as written: to which partner (`true` is `pX`), which cell, at which level, how many units. -/
abbrev Due : Type := Bool × CK × ℕ × ℕ
/-- The partner. -/
def pB (b : Bool) (c : Dev nD) : Dev nD := if b then pX c else pM c
/-- The due on a device. -/
def duePay (c : Dev nD) (x : Due) : Pay nD τ sig := (cell (pB x.1 c) x.2.1, x.2.2.1, x.2.2.2)
/-- The dues of the round's barrier. -/
def dBar (r : ℕ) : List Due := [(true, none, 10 * r + 1, 1), (false, none, 10 * r + 1, 1)]
/-- The dues of an exchange. -/
def dEx (r : ℕ) (k : Fin 4) : List Due :=
  [(if k = 0 ∨ k = 3 then true else false, some (true, 0, k), 10 * r + 2 + k.val, NN k),
   (if k = 0 ∨ k = 3 then false else true, some (true, 1, k), 10 * r + 2 + k.val, NN k)]
/-- The dues of the exchanges of a round. -/
def dExs (r : ℕ) : List Due := dEx r 0 ++ (dEx r 1 ++ (dEx r 2 ++ dEx r 3))
/-- All the dues. -/
def dAll : List Due := dBar 0 ++ (dExs 0 ++ (dBar 1 ++ dExs 1))
/-- What a list of dues owes. -/
def owed (c : Dev nD) (D : List Due) : CellTallies nD τ sig ℕ := tallyL (D.map (duePay c))

/-- Peeling the first due. -/
theorem owed_cons (c : Dev nD) (x : Due) (D : List Due) : owed c (x :: D) = owed c D + tallyAt (cell (pB x.1 c) x.2.1) x.2.2.1 x.2.2.2 := by
  unfold owed; rw [List.map_cons]
  show Pay.tally _ + tallyL _ = _
  rw [add_comm]; rfl
/-- Nothing. -/
theorem owed_nil (c : Dev nD) : owed c [] = 0 := rfl

/-- A wait below all the dues still owed is allowed. -/
theorem mayWait_dues (c : Dev nD) (sm : SemLoc sig) (i : ℕ) (hi : i < 20) (D : List Due) (hD : ∀ x ∈ D, i < x.2.2.1 ∧ x.2.2.1 < 20) :
    (levAts (SiteBlocks.L 20) SiteBlocks.lv : sProp 𝕄) ⊢ MayWait (c : Thread nD τ) sm i (owed c D) :=
  SiteBlocks.mayWait_of hi c sm _ fun g k hg => by
    obtain ⟨x, hx, rfl, rfl⟩ := tallyL_pos hg
    obtain ⟨y, hy, rfl⟩ := List.mem_map.mp hx
    have h := hD y hy
    refine ⟨?_, h.1⟩
    show y.2.2.1 ∈ SiteBlocks.L 20 (cell _ _)
    unfold SiteBlocks.L; rw [if_pos rfl]; exact Finset.mem_range.mpr h.2

end Cert.Butterfly

end
-- ==== Proof.Steps.lean ====
/-
# 01_k — one rule per kind of step of the kernel's run

The copies of the four exchanges, the waits, and the two additions, each at any sub-array, round and continuation.
-/
module

public import proofs.«01_k».proof.Proof.Proto
public import Idealize.ShloMosaic.Lib.Tactic

@[expose] public section

set_option backward.proofsInPublic true

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

/-- No variant is chosen anywhere. -/
abbrev 𝒱₀ : Variants := Variants.none

variable (P : ℕ → Dev nD → CB F) (K : Dev nD × CK → ℕ)

/-- The invariants of every cell of the mesh. -/
def allInv : sProp 𝕄 := bigSep Finset.univ fun x : Dev nD × CK => cellInv ER (Rd P) (K x) (cell x.1 x.2)

instance allInv_persistent : BI.Persistent (allInv P K) := by unfold allInv; infer_instance

/-- One of them. -/
theorem allInv_elim (d : Dev nD) (k : CK) : allInv P K ⊢ cellInv ER (Rd P) (K (d, k)) (cell d k) := by
  unfold allInv
  exact bigSep_elim (i := (d, k)) (Finset.mem_univ _) (Φ := fun x : Dev nD × CK => cellInv ER (Rd P) (K x) (cell x.1 x.2))

/-- What device `c` still owes, whatever it has waited for. -/
def ow (c : Dev nD) (D : List Due) : sProp 𝕄 := iprop(∃ W, owes (c : Thread nD τ) (owed c D) W)

/-- The level facts. -/
abbrev levs : sProp 𝕄 := levAts (SiteBlocks.L 20) SiteBlocks.lv

/-- Who the copy of sub-array `s`, exchange `k` goes to. -/
def peer (s : Fin 2) (k : Fin 4) (c : Dev nD) : Dev nD := match k with | 0 => p1 s c | 1 => p2 s c | 2 => p2 s c | 3 => p1 s c

/-- What device `c` holds for its copy of sub-array `s`, exchange `k`, round `r`. -/
def exIn (r : ℕ) (k : Fin 4) (s : Fin 2) (c : Dev nD) : sProp 𝕄 :=
  iprop(atPos ER (sndC c s k) r ∅ 0 ∗ atPos ER (rcvC c s k) r ∅ 0 ∗ reached ER (sndC c s k) r
    ∗ dutyTok ER (sndC c s k) r false ∗ dutyTok ER (rcvC (peer s k c) s k) r false
    ∗ cred (tallyAt (rcvC c s k) (10 * r + 2 + k.val) (NN k)))
/-- What it holds of it at the end. -/
def exOut (r : ℕ) (k : Fin 4) (s : Fin 2) (c : Dev nD) : sProp 𝕄 :=
  iprop(atPos ER (sndC c s k) (r + 1) ∅ 0 ∗ atPos ER (rcvC c s k) (r + 1) ∅ 0 ∗ reached ER (sndC c s k) (r + 1) ∗ reached ER (rcvC c s k) (r + 1))

variable {α : Type}

/-! ## A wait on a DMA cell -/

/-- A wait on one of device `c`'s DMA cells for the round's one copy. -/
theorem wp_waitC (c : Dev nD) (b : Bool) (s : Fin 2) (k : Fin 4) (r : ℕ) (hr : r < 2) (i : ℕ) (D : List Due)
    (hi : i < 20) (hD : ∀ x ∈ D, i < x.2.2.1 ∧ x.2.2.1 < 20)
    {sm : DmaSem sig} (hsm : SemLoc.dma sm = csem (some (b, s, k)))
    {sp sp' : Space} {sh sh' : Shape} {e e' : EltTy} {src : Memref sig .tc sp' sh' e'} {dst : Memref sig .tc sp sh e}
    {hsrc : src.view.WordExact} {hdst : dst.view.WordExact} (hN : dst.view.dmaCredit = NN k)
    {Q : α → sProp 𝕄} {kk : PUnit → Prog (TpuEff nD τ sig (Elt F) Λ₀ .tc) α} :
    iprop(allInv P K ∗ levs ∗ cred (tallyAt (cell c (some (b, s, k))) i (NN k)) ∗ ow c D ∗ atPos ER (cell c (some (b, s, k))) r ∅ 0)
      ⊢ iprop(((ow c D ∗ atPos ER (cell c (some (b, s, k))) (r + 1) ∅ 0 ∗ reached ER (cell c (some (b, s, k))) (r + 1)
            ∗ (Rd P).payload (cell c (some (b, s, k))) r false) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  unfold ow
  iintro ⟨#HI, #Hlev, Hc, ⟨%W, HO⟩, Hat⟩ Hk
  ihave #Hi := (allInv_elim P K c (some (b, s, k))) $$ HI
  have e1 : cell c (some (b, s, k)) = ((c : Thread nD τ), SemLoc.dma sm) := by show (_, _) = _; rw [hsm]
  rw [e1]
  iapply (Rounds.wp_wait_rest_token 𝒱₀ ER (Rd P) (c : Thread nD τ) none (κ := K (c, some (b, s, k)))
      (wpE_waitDma2_eq 𝒱₀ (c : Thread nD τ) none Set.univ) (Set.mem_univ _) i (O := owed c D) (W := W) (R := r) (m := 0) (T := ∅)
      (by rw [Nat.zero_add, ← e1, expect_dma P c b s k r hr]; exact hN)) $$ [Hc HO Hat]
  · isplitr; · iexact Hi
    isplitl [Hc]; · rw [hN]; iexact Hc
    isplitl [HO]; · iexact HO
    isplitr; · iapply (mayWait_dues c (.dma sm) i hi D hD); iexact Hlev
    iexact Hat
  iintro ⟨HO, Hat, #Hr, Hpay⟩
  rw [← e1]
  ihave Hp := (Entails.of_eq (rest_dma P c (b, s, k) r hr)) $$ Hpay
  iapply Hk
  isplitl [HO]; · iexists _; iexact HO
  isplitl [Hat]; · iexact Hat
  isplitr; · iexact Hr
  iexact Hp

/-! ## The copies -/

/-- The copy of exchange 0: the partner's half of the own buffer into the partner's landing columns. -/
theorem wp_send0 (c : Dev nD) (s : Fin 2) (r : ℕ) (hr : r < 2) (b : Bool) (hb : pB b c = p1 s c) (D : List Due)
    {n : Dev nD} (hn : n = p1 s c) {src : Memref sig .tc .vmem S512x384 .bf16} (hs : src = hM s (p1 s c))
    {dst : Memref sig .tc .vmem S512x384 .bf16} (hd : dst = u1M s) {sS sR : DmaSem sig} (hS : sS = sndS s 0) (hR : sR = rcvS s 0)
    {hsc : (show Memref sig (Dev.tc n : Thread nD τ).2.kind .vmem S512x384 .bf16 from dst).view.ref.isScScratch = false}
    {hsrc : src.view.WordExact} {hdst : dst.view.WordExact}
    {hsem : DmaTarget.Typed .vmem (.dma sR) (.remote (Dev.tc n : Thread nD τ) dst (.dma sS) hsc)}
    {Q : α → sProp 𝕄} {kk : PUnit → Prog (TpuEff nD τ sig (Elt F) Λ₀ .tc) α} :
    iprop(allInv P K ∗ ow c ((b, some (true, s, 0), 10 * r + 2, NN 0) :: D) ∗ hP c s (p1 s c) (P r c) ∗ (∃ f, uP (p1 s c) s f) ∗ reached ER (barC c) (r + 1)
        ∗ dutyTok ER (sndC c s 0) r false ∗ reached ER (sndC c s 0) r ∗ dutyTok ER (rcvC (p1 s c) s 0) r false ∗ reached ER (rcvC (p1 s c) s 0) r)
      ⊢ iprop(((cred (tallyAt (sndC c s 0) 0 (NN 0)) ∗ ow c D) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn hs hd hS hR
  unfold ow
  iintro ⟨#HI, ⟨%W, HO⟩, Hh, ⟨%f, Hu⟩, #HrB, HtS, #HrS, HtR, #HrR⟩ Hk
  ihave #Hi1 := (allInv_elim P K c (some (false, s, 0))) $$ HI
  ihave #Hi2 := (allInv_elim P K (p1 s c) (some (true, s, 0))) $$ HI
  iapply (Rounds.wp_send_landing_pointsTo_with 𝒱₀ ER (Rd P) (c : Thread nD τ) none (src := hM s (p1 s c)) (dst := u1M s)
      (c' := (p1 s c : Thread nD τ)) (sS := .dma (sndS s 0)) (sem := .dma (rcvS s 0)) (q := fullShare)
      (fs := P r c) (fd := f) (F := reached ER (barC c) (r + 1))
      (κ₁ := K (c, some (false, s, 0))) (κ₂ := K (p1 s c, some (true, s, 0)))
      (r₁ := r) (r₂ := r) (d₁ := false) (d₂ := false)
      (by show false ∈ (Rd P).duties (sndC c s 0) r; rw [duties_dma P c _ r hr]; exact Finset.mem_singleton_self _)
      (by show false ∈ (Rd P).duties (rcvC (p1 s c) s 0) r; rw [duties_dma P _ _ r hr]; exact Finset.mem_singleton_self _)
      (10 * r + 2) 0 (NN 0) (by match s with | 0 => rfl | 1 => rfl) (amount_dma P c false s 0 r false) (amount_dma P (p1 s c) true s 0 r false)
      (O₀ := owed c ((b, some (true, s, 0), 10 * r + 2, NN 0) :: D)) (owed c D) (by rw [owed_cons]; rw [show pB (b, some (true, s, (0 : Fin 4)), 10 * r + 2, NN 0).1 c = p1 s c from hb]; rfl) (W := W)
      (by show emp ⊢ (Rd P).payload (sndC c s 0) r false; rw [payload_send]; exact BI.Entails.refl _)
      (by
        show _ ⊢ (Rd P).payload (rcvC (p1 s c) s 0) r false
        rw [payload_recv]
        show _ ⊢ rp0 P r (p1 s c) s
        unfold rp0 uP hP; rw [p1_p1]
        iintro ⟨⟨Hd, Hr⟩, Hs⟩
        iexists ((u1M s).view.write (Elt F) f ((hM s (p1 s c)).view.read (Elt F) (P r c)) Finset.univ)
        isplitr
        · ipureintro; exact View.read_write_univ _ _
        isplitl [Hd]; · iexact Hd
        isplitl [Hs]; · iexact Hs
        iexact Hr)) $$ [HO Hh Hu HtS HtR]
  · isplitr; · iexact Hi1
    isplitr; · iexact Hi2
    isplitl [Hh]; · unfold hP; iexact Hh
    isplitl [Hu]
    · isplitl [Hu]; · unfold uP; iexact Hu
      iexact HrB
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists _; iexact HO

/-- The copy of exchange 1: the partner's quarter of the own half into the partner's landing columns. -/
theorem wp_send1 (c : Dev nD) (s : Fin 2) (r : ℕ) (hr : r < 2) (b : Bool) (hb : pB b c = p2 s c) (D : List Due)
    {n : Dev nD} (hn : n = p2 s c) {src : Memref sig .tc .vmem S256x384 .bf16} (hs : src = qM s (p2 s c))
    {dst : Memref sig .tc .vmem S256x384 .bf16} (hd : dst = v1M s) {sS sR : DmaSem sig} (hS : sS = sndS s 1) (hR : sR = rcvS s 1)
    {hsc : (show Memref sig (Dev.tc n : Thread nD τ).2.kind .vmem S256x384 .bf16 from dst).view.ref.isScScratch = false}
    {hsrc : src.view.WordExact} {hdst : dst.view.WordExact}
    {hsem : DmaTarget.Typed .vmem (.dma sR) (.remote (Dev.tc n : Thread nD τ) dst (.dma sS) hsc)}
    {Q : α → sProp 𝕄} {kk : PUnit → Prog (TpuEff nD τ sig (Elt F) Λ₀ .tc) α} :
    iprop(allInv P K ∗ ow c ((b, some (true, s, 1), 10 * r + 2 + 1, NN 1) :: D) ∗ qP c s (p2 s c) (A1 (P r) c) ∗ (∃ f, vP (p2 s c) s f)
        ∗ dutyTok ER (sndC c s 1) r false ∗ reached ER (sndC c s 1) r ∗ dutyTok ER (rcvC (p2 s c) s 1) r false ∗ reached ER (rcvC (p2 s c) s 1) r)
      ⊢ iprop(((cred (tallyAt (sndC c s 1) 0 (NN 1)) ∗ ow c D) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn hs hd hS hR
  unfold ow
  iintro ⟨#HI, ⟨%W, HO⟩, Hh, ⟨%f, Hu⟩, HtS, #HrS, HtR, #HrR⟩ Hk
  ihave #Hi1 := (allInv_elim P K c (some (false, s, 1))) $$ HI
  ihave #Hi2 := (allInv_elim P K (p2 s c) (some (true, s, 1))) $$ HI
  iapply (Rounds.wp_send_landing_pointsTo 𝒱₀ ER (Rd P) (c : Thread nD τ) none (src := qM s (p2 s c)) (dst := v1M s)
      (c' := (p2 s c : Thread nD τ)) (sS := .dma (sndS s 1)) (sem := .dma (rcvS s 1)) (q := fullShare)
      (fs := A1 (P r) c) (fd := f)
      (κ₁ := K (c, some (false, s, 1))) (κ₂ := K (p2 s c, some (true, s, 1)))
      (r₁ := r) (r₂ := r) (d₁ := false) (d₂ := false)
      (by show false ∈ (Rd P).duties (sndC c s 1) r; rw [duties_dma P c _ r hr]; exact Finset.mem_singleton_self _)
      (by show false ∈ (Rd P).duties (rcvC (p2 s c) s 1) r; rw [duties_dma P _ _ r hr]; exact Finset.mem_singleton_self _)
      (10 * r + 2 + 1) 0 (NN 1) (by match s with | 0 => rfl | 1 => rfl) (amount_dma P c false s 1 r false) (amount_dma P (p2 s c) true s 1 r false)
      (O₀ := owed c ((b, some (true, s, 1), 10 * r + 2 + 1, NN 1) :: D)) (owed c D) (by rw [owed_cons]; rw [show pB (b, some (true, s, (1 : Fin 4)), 10 * r + 2 + 1, NN 1).1 c = p2 s c from hb]; rfl) (W := W)
      (by show emp ⊢ (Rd P).payload (sndC c s 1) r false; rw [payload_send]; exact BI.Entails.refl _)
      (by
        show _ ⊢ (Rd P).payload (rcvC (p2 s c) s 1) r false
        rw [payload_recv]
        show _ ⊢ rp1 P r (p2 s c) s
        unfold rp1 vP qP; rw [p2_p2]
        iintro ⟨Hd, Hs⟩
        iexists ((v1M s).view.write (Elt F) f ((qM s (p2 s c)).view.read (Elt F) (A1 (P r) c)) Finset.univ)
        isplitr
        · ipureintro; exact View.read_write_univ _ _
        isplitl [Hd]; · iexact Hd
        iexact Hs)) $$ [HO Hh Hu HtS HtR]
  · isplitr; · iexact Hi1
    isplitr; · iexact Hi2
    isplitl [Hh]; · unfold qP; iexact Hh
    isplitl [Hu]; · unfold vP; iexact Hu
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists _; iexact HO

omit [FloatOps F] [Named F] in
/-- A whole piece copied onto itself elsewhere: the landed contents are the source's. -/
theorem copy_same {sh : Shape} {r : Rect S1024x768} {hr : ∀ a, r.stride a = 1} (d : Dev nD) (fd fs : CB F) :
    (((d : Thread nD τ).loc cc0_scratch0) ↦[(cM.slice r hr).view.set]{fullShare} ((cM.slice r hr).view.write (Elt F) fd ((cM.slice r hr).view.read (Elt F) fs) Finset.univ) : sProp 𝕄)
      ⊢ ((d : Thread nD τ).loc cc0_scratch0) ↦[(cM.slice r hr).view.set]{fullShare} fs :=
  Entails.of_eq (pointsTo_congr fun i hi => by
    obtain ⟨x, rfl⟩ := View.exists_of_mem_set_slice hi
    exact (View.write_emb_of_mem (v := (cM.slice r hr).view) _ _ (Finset.mem_univ x)).trans rfl)

/-- The copy of exchange 2: the own quarter, finished, to the partner. -/
theorem wp_send2 (c : Dev nD) (s : Fin 2) (r : ℕ) (hr : r < 2) (b : Bool) (hb : pB b c = p2 s c) (D : List Due)
    {n : Dev nD} (hn : n = p2 s c) {src : Memref sig .tc .vmem S256x384 .bf16} (hs : src = qM s c)
    {dst : Memref sig .tc .vmem S256x384 .bf16} (hd : dst = qM s c) {sS sR : DmaSem sig} (hS : sS = sndS s 2) (hR : sR = rcvS s 2)
    {hsc : (show Memref sig (Dev.tc n : Thread nD τ).2.kind .vmem S256x384 .bf16 from dst).view.ref.isScScratch = false}
    {hsrc : src.view.WordExact} {hdst : dst.view.WordExact}
    {hsem : DmaTarget.Typed .vmem (.dma sR) (.remote (Dev.tc n : Thread nD τ) dst (.dma sS) hsc)}
    {Q : α → sProp 𝕄} {kk : PUnit → Prog (TpuEff nD τ sig (Elt F) Λ₀ .tc) α} (g : CB F) :
    iprop(allInv P K ∗ ow c ((b, some (true, s, 2), 10 * r + 2 + 2, NN 2) :: D) ∗ qP c s c (AF (P r)) ∗ qP (p2 s c) s c g
        ∗ dutyTok ER (sndC c s 2) r false ∗ reached ER (sndC c s 2) r ∗ dutyTok ER (rcvC (p2 s c) s 2) r false ∗ reached ER (rcvC (p2 s c) s 2) r)
      ⊢ iprop(((cred (tallyAt (sndC c s 2) 0 (NN 2)) ∗ ow c D) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn hs hd hS hR
  unfold ow
  iintro ⟨#HI, ⟨%W, HO⟩, Hh, Hu, HtS, #HrS, HtR, #HrR⟩ Hk
  ihave #Hi1 := (allInv_elim P K c (some (false, s, 2))) $$ HI
  ihave #Hi2 := (allInv_elim P K (p2 s c) (some (true, s, 2))) $$ HI
  iapply (Rounds.wp_send_pointsTo 𝒱₀ ER (Rd P) (c : Thread nD τ) none (src := qM s c) (dst := qM s c)
      (c' := (p2 s c : Thread nD τ)) (sS := .dma (sndS s 2)) (sem := .dma (rcvS s 2)) (q := fullShare)
      (fs := AF (P r)) (fd := g)
      (κ₁ := K (c, some (false, s, 2))) (κ₂ := K (p2 s c, some (true, s, 2)))
      (r₁ := r) (r₂ := r) (d₁ := false) (d₂ := false)
      (by show false ∈ (Rd P).duties (sndC c s 2) r; rw [duties_dma P c _ r hr]; exact Finset.mem_singleton_self _)
      (by show false ∈ (Rd P).duties (rcvC (p2 s c) s 2) r; rw [duties_dma P _ _ r hr]; exact Finset.mem_singleton_self _)
      (10 * r + 2 + 2) 0 (NN 2) (by match s with | 0 => rfl | 1 => rfl) (amount_dma P c false s 2 r false) (amount_dma P (p2 s c) true s 2 r false)
      (O₀ := owed c ((b, some (true, s, 2), 10 * r + 2 + 2, NN 2) :: D)) (owed c D) (by rw [owed_cons]; rw [show pB (b, some (true, s, (2 : Fin 4)), 10 * r + 2 + 2, NN 2).1 c = p2 s c from hb]; rfl) (W := W)
      (by show _ ⊢ (Rd P).payload (sndC c s 2) r false; rw [payload_send]; exact BI.Entails.refl _)
      (by
        show _ ⊢ (Rd P).payload (rcvC (p2 s c) s 2) r false
        rw [payload_recv]
        show _ ⊢ rp2 P r (p2 s c) s
        unfold rp2 qP; rw [p2_p2]
        exact copy_same (sh := S256x384) _ _ _)) $$ [HO Hh Hu HtS HtR]
  · isplitr; · iexact Hi1
    isplitr; · iexact Hi2
    isplitl [Hh]; · unfold qP; iexact Hh
    isplitl [Hu]; · unfold qP; iexact Hu
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists _; iexact HO

/-- The copy of exchange 3: the own half, finished, to the partner. -/
theorem wp_send3 (c : Dev nD) (s : Fin 2) (r : ℕ) (hr : r < 2) (b : Bool) (hb : pB b c = p1 s c) (D : List Due)
    {n : Dev nD} (hn : n = p1 s c) {src : Memref sig .tc .vmem S512x384 .bf16} (hs : src = hM s c)
    {dst : Memref sig .tc .vmem S512x384 .bf16} (hd : dst = hM s c) {sS sR : DmaSem sig} (hS : sS = sndS s 3) (hR : sR = rcvS s 3)
    {hsc : (show Memref sig (Dev.tc n : Thread nD τ).2.kind .vmem S512x384 .bf16 from dst).view.ref.isScScratch = false}
    {hsrc : src.view.WordExact} {hdst : dst.view.WordExact}
    {hsem : DmaTarget.Typed .vmem (.dma sR) (.remote (Dev.tc n : Thread nD τ) dst (.dma sS) hsc)}
    {Q : α → sProp 𝕄} {kk : PUnit → Prog (TpuEff nD τ sig (Elt F) Λ₀ .tc) α} (g : CB F) :
    iprop(allInv P K ∗ ow c ((b, some (true, s, 3), 10 * r + 2 + 3, NN 3) :: D) ∗ hP c s c (AF (P r)) ∗ hP (p1 s c) s c g
        ∗ dutyTok ER (sndC c s 3) r false ∗ reached ER (sndC c s 3) r ∗ dutyTok ER (rcvC (p1 s c) s 3) r false ∗ reached ER (rcvC (p1 s c) s 3) r)
      ⊢ iprop(((cred (tallyAt (sndC c s 3) 0 (NN 3)) ∗ ow c D) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn hs hd hS hR
  unfold ow
  iintro ⟨#HI, ⟨%W, HO⟩, Hh, Hu, HtS, #HrS, HtR, #HrR⟩ Hk
  ihave #Hi1 := (allInv_elim P K c (some (false, s, 3))) $$ HI
  ihave #Hi2 := (allInv_elim P K (p1 s c) (some (true, s, 3))) $$ HI
  iapply (Rounds.wp_send_pointsTo 𝒱₀ ER (Rd P) (c : Thread nD τ) none (src := hM s c) (dst := hM s c)
      (c' := (p1 s c : Thread nD τ)) (sS := .dma (sndS s 3)) (sem := .dma (rcvS s 3)) (q := fullShare)
      (fs := AF (P r)) (fd := g)
      (κ₁ := K (c, some (false, s, 3))) (κ₂ := K (p1 s c, some (true, s, 3)))
      (r₁ := r) (r₂ := r) (d₁ := false) (d₂ := false)
      (by show false ∈ (Rd P).duties (sndC c s 3) r; rw [duties_dma P c _ r hr]; exact Finset.mem_singleton_self _)
      (by show false ∈ (Rd P).duties (rcvC (p1 s c) s 3) r; rw [duties_dma P _ _ r hr]; exact Finset.mem_singleton_self _)
      (10 * r + 2 + 3) 0 (NN 3) (by match s with | 0 => rfl | 1 => rfl) (amount_dma P c false s 3 r false) (amount_dma P (p1 s c) true s 3 r false)
      (O₀ := owed c ((b, some (true, s, 3), 10 * r + 2 + 3, NN 3) :: D)) (owed c D) (by rw [owed_cons]; rw [show pB (b, some (true, s, (3 : Fin 4)), 10 * r + 2 + 3, NN 3).1 c = p1 s c from hb]; rfl) (W := W)
      (by show _ ⊢ (Rd P).payload (sndC c s 3) r false; rw [payload_send]; exact BI.Entails.refl _)
      (by
        show _ ⊢ (Rd P).payload (rcvC (p1 s c) s 3) r false
        rw [payload_recv]
        show _ ⊢ rp3 P r (p1 s c) s
        unfold rp3 hP; rw [p1_p1]
        exact copy_same (sh := S512x384) _ _ _)) $$ [HO Hh Hu HtS HtR]
  · isplitr; · iexact Hi1
    isplitr; · iexact Hi2
    isplitl [Hh]; · unfold hP; iexact Hh
    isplitl [Hu]; · unfold hP; iexact Hu
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists _; iexact HO

/-! ## The barrier -/

/-- The two signals and the wait of a round's barrier. -/
theorem wp_bar (c : Dev nD) (r : ℕ) (hr : r < 2) (D : List Due) (hD : ∀ x ∈ D, 10 * r + 1 < x.2.2.1 ∧ x.2.2.1 < 20)
    {n1 n2 : Dev nD} (h1 : n1 = pX c) (h2 : n2 = pM c) {a1 a2 a3 : ℕ} (ha1 : a1 = 1) (ha2 : a2 = 1) (ha3 : a3 = 2)
    {Q : α → sProp 𝕄} {kk : PUnit → Prog (TpuEff nD τ sig (Elt F) Λ₀ .tc) α} :
    iprop(allInv P K ∗ levs ∗ ow c (dBar r ++ D) ∗ dutyTok ER (barC (pX c)) r true ∗ dutyTok ER (barC (pM c)) r false
        ∗ reached ER (barC (pX c)) r ∗ reached ER (barC (pM c)) r ∗ handX r c ∗ handM r c
        ∗ cred (tallyAt (barC c) (10 * r + 1) 2) ∗ atPos ER (barC c) r ∅ 0)
      ⊢ iprop(((ow c D ∗ atPos ER (barC c) (r + 1) ∅ 0 ∗ reached ER (barC c) (r + 1) ∗ handX r (pX c) ∗ handM r (pM c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (Dev.tc n1 : Thread nD τ) barS a1) fun _ => .op (.semSignal (Dev.tc n2 : Thread nD τ) barS a2) fun _ =>
                .op (.semWait barS a3) kk) Q) := by
  subst h1 h2 ha1 ha2 ha3
  unfold ow
  iintro ⟨#HI, #Hlev, ⟨%W, HO⟩, HtX, HtM, #HrX, #HrM, HhX, HhM, Hc, Hat⟩ Hk
  ihave #Hi0 := (allInv_elim P K c none) $$ HI
  ihave #Hi1 := (allInv_elim P K (pX c) none) $$ HI
  ihave #Hi2 := (allInv_elim P K (pM c) none) $$ HI
  iapply (Rounds.wp_signal 𝒱₀ ER (Rd P) (c : Thread nD τ) none (dst := (pX c : Thread nD τ)) (κ := K (pX c, none)) (sem := barS) (r := r)
      (d := true) (by show true ∈ (Rd P).duties (barC (pX c)) r; rw [duties_bar P _ r hr]; exact Finset.mem_univ _)
      (amount_bar P (pX c) r true) (10 * r + 1) (O₀ := owed c (dBar r ++ D)) (owed c ((false, none, 10 * r + 1, 1) :: D))
      (by unfold dBar; rw [List.cons_append, List.cons_append, List.nil_append, owed_cons]; rfl) (W := W))
    $$ [HO HtX HhX]
  · isplitr; · iexact Hi1
    isplitl [HO]; · iexact HO
    isplitl [HtX]; · iexact HtX
    isplitl [HhX]
    · ihave HhX' := (show handX r c ⊢ (Rd P).payload ((pX c : Thread nD τ), SemLoc.reg barS) r true by
        show handX r c ⊢ (Rd P).payload (barC (pX c)) r true; rw [payload_barX, pX_pX]) $$ HhX
      iexact HhX'
    iexact HrX
  iintro HO
  iapply (Rounds.wp_signal 𝒱₀ ER (Rd P) (c : Thread nD τ) none (dst := (pM c : Thread nD τ)) (κ := K (pM c, none)) (sem := barS) (r := r)
      (d := false) (by show false ∈ (Rd P).duties (barC (pM c)) r; rw [duties_bar P _ r hr]; exact Finset.mem_univ _)
      (amount_bar P (pM c) r false) (10 * r + 1) (O₀ := owed c ((false, none, 10 * r + 1, 1) :: D)) (owed c D)
      (by rw [owed_cons]; rfl) (W := W))
    $$ [HO HtM HhM]
  · isplitr; · iexact Hi2
    isplitl [HO]; · iexact HO
    isplitl [HtM]; · iexact HtM
    isplitl [HhM]
    · ihave HhM' := (show handM r c ⊢ (Rd P).payload ((pM c : Thread nD τ), SemLoc.reg barS) r false by
        show handM r c ⊢ (Rd P).payload (barC (pM c)) r false; rw [payload_barM, pM_pM]) $$ HhM
      iexact HhM'
    iexact HrM
  iintro HO
  iapply (Rounds.wp_wait_rest_token 𝒱₀ ER (Rd P) (c : Thread nD τ) none (κ := K (c, none))
      (wpE_semWait_eq 𝒱₀ (c : Thread nD τ) none Set.univ) (Set.mem_univ _) (10 * r + 1) (O := owed c D) (W := W) (R := r) (m := 0) (T := ∅)
      (by rw [Nat.zero_add]; exact (expect_bar P c r hr).symm)) $$ [Hc HO Hat]
  · isplitr; · iexact Hi0
    isplitl [Hc]; · iexact Hc
    isplitl [HO]; · iexact HO
    isplitr; · iapply (mayWait_dues c (.reg barS) (10 * r + 1) (by omega) D hD); iexact Hlev
    iexact Hat
  iintro ⟨HO, Hat, #Hr, Hpay⟩
  ihave Hp := (show bigSep ((Rd P).duties ((c : Thread nD τ), SemLoc.reg barS) r \ ∅) (fun d => (Rd P).payload ((c : Thread nD τ), SemLoc.reg barS) r d)
      ⊢ iprop(handM r (pM c) ∗ handX r (pX c)) from Entails.of_eq (rest_bar P c r hr)) $$ Hpay
  icases Hp with ⟨HM, HX⟩
  iapply Hk
  isplitl [HO]; · iexists _; iexact HO
  isplitl [Hat]; · iexact Hat
  isplitr; · iexact Hr
  isplitl [HX] <;> iassumption

/-! ## The additions -/

omit [FloatOps F] [Named F] in
/-- What a store through a piece's rectangle leaves on the piece, entry by entry. -/
theorem stored_eq {r : Rect S1024x768} (d : Dev nD) (f g : CB F) (w : r.shape.Idx → Elt F .bf16)
    (h : ∀ x, w x = g (r.emb x)) :
    (((d : Thread nD τ).loc cc0_scratch0) ↦[((cM.access r : View sig .tc _ _ _)).set]{fullShare} ((cM.access r : View sig .tc _ _ _).write (Elt F) f w Finset.univ) : sProp 𝕄)
      = (((d : Thread nD τ).loc cc0_scratch0) ↦[((cM.access r : View sig .tc _ _ _)).set]{fullShare} g) :=
  pointsTo_congr fun i hi => by
    obtain ⟨x, rfl⟩ := View.exists_of_mem_set_slice hi
    exact (View.write_emb_of_mem (v := (cM.access r : View sig .tc _ _ _)) _ _ (Finset.mem_univ x)).trans (h x)

/-- The addition after exchange 0. -/
theorem wp_acc0 (c : Dev nD) (s : Fin 2) (r : ℕ) (pay : Vec F S512x384 .bf16 → Vec F S512x384 .bf16 → FVec F S512x384 .bf16)
    (hpay : ∀ v w i, pay v w i = acc (v i) (w i)) (f : UBf F) (hf : (u1M s).view.read (Elt F) f = (hM s c).view.read (Elt F) (P r (p1 s c)))
    {h1 : cM.view.LoadsAt (hR s c).toLoadRect} {h2 : uM.view.LoadsAt (uR s).toLoadRect} {h3 : cM.view.LoadsAt (hR s c).toLoadRect}
    {h4 : (cM.access (hR s c) : View sig .tc _ _ _).Stores Finset.univ} {h5 : (Finset.univ : Finset (hR s c).shape.Idx) = Finset.univ ∨ ∀ a, (hR s c).stride a = 1}
    {Q : α → sProp 𝕄} {kk : PUnit → Prog (TpuEff nD τ sig (Elt F) Λ₀ .tc) α} :
    iprop(hP c s c (P r c) ∗ uP c s f)
      ⊢ iprop(((hP c s c (A1 (P r) c) ∗ uP c s f) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load cM (hR s c).toLoadRect h1) fun v => .op (.load uM (uR s).toLoadRect h2) fun w =>
                .op (.load cM (hR s c).toLoadRect h3) fun _ => .op (.store cM (hR s c) (pay v w) Finset.univ h4 h5) kk) Q) := by
  unfold hP uP
  iintro ⟨Hh, Hu⟩ Hk
  iapply (wp_load_rect 𝒱₀ (c : Thread nD τ) none Set.univ (m := cM) (r := hR s c) (S := (hM s c).view.set) (Finset.Subset.refl _)) $$ Hh; iintro Hh
  iapply (wp_load_rect 𝒱₀ (c : Thread nD τ) none Set.univ (m := uM) (r := uR s) (S := (u1M s).view.set) (Finset.Subset.refl _)) $$ Hu; iintro Hu
  iapply (wp_load_rect 𝒱₀ (c : Thread nD τ) none Set.univ (m := cM) (r := hR s c) (S := (hM s c).view.set) (Finset.Subset.refl _)) $$ Hh; iintro Hh
  iapply (wp_store 𝒱₀ (c : Thread nD τ) none Set.univ (m := cM) (r := hR s c) (Mk := Finset.univ) (S := (hM s c).view.set) (View.setOn_subset_set _ _)) $$ Hh; iintro Hh
  iapply Hk
  isplitl [Hh]
  · ihave Hh' := (Entails.of_eq (stored_eq (r := hR s c) c (P r c) (A1 (P r) c) _ fun x => by
      rw [hpay]
      have hm : (hR s c).emb x ∈ (hM s c).view.set := View.emb_mem_set (hM s c).view x
      rw [A1_of (P r) (mem_h.mp hm).2]
      exact congrArg (acc (P r c ((hR s c).emb x))) (congrFun hf x))) $$ Hh
    iexact Hh'
  iexact Hu

/-- The addition after exchange 1. -/
theorem wp_acc1 (c : Dev nD) (s : Fin 2) (r : ℕ) (pay : Vec F S256x384 .bf16 → Vec F S256x384 .bf16 → FVec F S256x384 .bf16)
    (hpay : ∀ v w i, pay v w i = acc (v i) (w i)) (f : VBf F) (hf : (v1M s).view.read (Elt F) f = (qM s c).view.read (Elt F) (A1 (P r) (p2 s c)))
    {h1 : cM.view.LoadsAt (qR s c).toLoadRect} {h2 : vM.view.LoadsAt (vR s).toLoadRect} {h3 : cM.view.LoadsAt (qR s c).toLoadRect}
    {h4 : (cM.access (qR s c) : View sig .tc _ _ _).Stores Finset.univ} {h5 : (Finset.univ : Finset (qR s c).shape.Idx) = Finset.univ ∨ ∀ a, (qR s c).stride a = 1}
    {Q : α → sProp 𝕄} {kk : PUnit → Prog (TpuEff nD τ sig (Elt F) Λ₀ .tc) α} :
    iprop(qP c s c (A1 (P r) c) ∗ vP c s f)
      ⊢ iprop(((qP c s c (AF (P r)) ∗ vP c s f) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load cM (qR s c).toLoadRect h1) fun v => .op (.load vM (vR s).toLoadRect h2) fun w =>
                .op (.load cM (qR s c).toLoadRect h3) fun _ => .op (.store cM (qR s c) (pay v w) Finset.univ h4 h5) kk) Q) := by
  unfold qP vP
  iintro ⟨Hh, Hu⟩ Hk
  iapply (wp_load_rect 𝒱₀ (c : Thread nD τ) none Set.univ (m := cM) (r := qR s c) (S := (qM s c).view.set) (Finset.Subset.refl _)) $$ Hh; iintro Hh
  iapply (wp_load_rect 𝒱₀ (c : Thread nD τ) none Set.univ (m := vM) (r := vR s) (S := (v1M s).view.set) (Finset.Subset.refl _)) $$ Hu; iintro Hu
  iapply (wp_load_rect 𝒱₀ (c : Thread nD τ) none Set.univ (m := cM) (r := qR s c) (S := (qM s c).view.set) (Finset.Subset.refl _)) $$ Hh; iintro Hh
  iapply (wp_store 𝒱₀ (c : Thread nD τ) none Set.univ (m := cM) (r := qR s c) (Mk := Finset.univ) (S := (qM s c).view.set) (View.setOn_subset_set _ _)) $$ Hh; iintro Hh
  iapply Hk
  isplitl [Hh]
  · ihave Hh' := (Entails.of_eq (stored_eq (r := qR s c) c (A1 (P r) c) (AF (P r)) _ fun x => by
      rw [hpay]
      have hm : (qR s c).emb x ∈ (qM s c).view.set := View.emb_mem_set (qM s c).view x
      rw [AF_of (P r) hm, A2_of (P r) (mem_q.mp hm).2]
      exact congrArg (acc (A1 (P r) c ((qR s c).emb x))) (congrFun hf x))) $$ Hh
    iexact Hh'
  iexact Hu

end Cert.Butterfly

end
-- ==== Proof.Exchange.lean ====
/-
# 01_k — the four exchanges of an all-reduce

Each exchange is two copies, one per sub-array, and the four waits on them.
-/
module

public import proofs.«01_k».proof.Proof.Steps
public import Idealize.ShloMosaic.Lib.Tactic

@[expose] public section

set_option backward.proofsInPublic true

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (P : ℕ → Dev nD → CB F) (K : Dev nD × CK → ℕ)

variable {α : Type}

/-- The four waits of an exchange. -/
theorem wp_waits (c : Dev nD) (k : Fin 4) (r : ℕ) (hr : r < 2) (D : List Due) (hD : ∀ x ∈ D, 10 * r + 2 + k.val < x.2.2.1 ∧ x.2.2.1 < 20)
    {sp0 sp1 sp2 sp3 sq0 sq1 sq2 sq3 : Space} {sh0 sh1 sh2 sh3 si0 si1 si2 si3 : Shape} {e0 e1 e2 e3 g0 g1 g2 g3 : EltTy}
    {s0 : Memref sig .tc sp0 sh0 e0} {s1 : Memref sig .tc sp1 sh1 e1} {s2 : Memref sig .tc sp2 sh2 e2} {s3 : Memref sig .tc sp3 sh3 e3}
    {d0 : Memref sig .tc sq0 si0 g0} {d1 : Memref sig .tc sq1 si1 g1} {d2 : Memref sig .tc sq2 si2 g2} {d3 : Memref sig .tc sq3 si3 g3}
    {a0 : s0.view.WordExact} {a1 : s1.view.WordExact} {a2 : s2.view.WordExact} {a3 : s3.view.WordExact}
    {b0 : d0.view.WordExact} {b1 : d1.view.WordExact} {b2 : d2.view.WordExact} {b3 : d3.view.WordExact}
    (h0 : d0.view.dmaCredit = NN k) (h1 : d1.view.dmaCredit = NN k) (h2 : d2.view.dmaCredit = NN k) (h3 : d3.view.dmaCredit = NN k)
    {Q : α → sProp 𝕄} {kk : PUnit → Prog (TpuEff nD τ sig (Elt F) Λ₀ .tc) α} :
    iprop(allInv P K ∗ levs ∗ ow c D
        ∗ (cred (tallyAt (sndC c 0 k) 0 (NN k)) ∗ atPos ER (sndC c 0 k) r ∅ 0)
        ∗ (cred (tallyAt (rcvC c 0 k) (10 * r + 2 + k.val) (NN k)) ∗ atPos ER (rcvC c 0 k) r ∅ 0)
        ∗ (cred (tallyAt (sndC c 1 k) 0 (NN k)) ∗ atPos ER (sndC c 1 k) r ∅ 0)
        ∗ (cred (tallyAt (rcvC c 1 k) (10 * r + 2 + k.val) (NN k)) ∗ atPos ER (rcvC c 1 k) r ∅ 0))
      ⊢ iprop(((ow c D ∗ exOut r k 0 c ∗ exOut r k 1 c ∗ sendPay P r c 0 k ∗ recvPay P r c 0 k ∗ sendPay P r c 1 k ∗ recvPay P r c 1 k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (sndS 0 k) s0 d0 a0 b0) fun _ => .op (.waitDma2 (rcvS 0 k) s1 d1 a1 b1) fun _ =>
                .op (.waitDma2 (sndS 1 k) s2 d2 a2 b2) fun _ => .op (.waitDma2 (rcvS 1 k) s3 d3 a3 b3) kk) Q) := by
  iintro ⟨#HI, #Hlev, HO, ⟨Hc0, Ha0⟩, ⟨Hc1, Ha1⟩, ⟨Hc2, Ha2⟩, Hc3, Ha3⟩ Hk
  have hD0 : ∀ x ∈ D, 0 < x.2.2.1 ∧ x.2.2.1 < 20 := fun x hx => ⟨by have := hD x hx; omega, (hD x hx).2⟩
  have hk : k.val < 4 := k.isLt
  iapply (wp_waitC P K c false 0 k r hr 0 D (by omega) hD0 rfl h0) $$ [HO Hc0 Ha0]
  · isplitr; · iexact HI
    isplitr; · iexact Hlev
    isplitl [Hc0]; · iexact Hc0
    isplitl [HO] <;> iassumption
  iintro ⟨HO, Ha0, #Hr0, Hp0⟩
  iapply (wp_waitC P K c true 0 k r hr (10 * r + 2 + k.val) D (by omega) hD rfl h1) $$ [HO Hc1 Ha1]
  · isplitr; · iexact HI
    isplitr; · iexact Hlev
    isplitl [Hc1]; · iexact Hc1
    isplitl [HO] <;> iassumption
  iintro ⟨HO, Ha1, #Hr1, Hp1⟩
  iapply (wp_waitC P K c false 1 k r hr 0 D (by omega) hD0 rfl h2) $$ [HO Hc2 Ha2]
  · isplitr; · iexact HI
    isplitr; · iexact Hlev
    isplitl [Hc2]; · iexact Hc2
    isplitl [HO] <;> iassumption
  iintro ⟨HO, Ha2, #Hr2, Hp2⟩
  iapply (wp_waitC P K c true 1 k r hr (10 * r + 2 + k.val) D (by omega) hD rfl h3) $$ [HO Hc3 Ha3]
  · isplitr; · iexact HI
    isplitr; · iexact Hlev
    isplitl [Hc3]; · iexact Hc3
    isplitl [HO] <;> iassumption
  iintro ⟨HO, Ha3, #Hr3, Hp3⟩
  ihave Hp0 := (Entails.of_eq (payload_send P c 0 k r false)) $$ Hp0
  ihave Hp1 := (Entails.of_eq (payload_recv P c 0 k r false)) $$ Hp1
  ihave Hp2 := (Entails.of_eq (payload_send P c 1 k r false)) $$ Hp2
  ihave Hp3 := (Entails.of_eq (payload_recv P c 1 k r false)) $$ Hp3
  iapply Hk
  unfold exOut
  isplitl [HO]; · iexact HO
  isplitl [Ha0 Ha1]
  · isplitl [Ha0]; · iexact Ha0
    isplitl [Ha1]; · iexact Ha1
    isplitr; · iexact Hr0
    iexact Hr1
  isplitl [Ha2 Ha3]
  · isplitl [Ha2]; · iexact Ha2
    isplitl [Ha3]; · iexact Ha3
    isplitr; · iexact Hr2
    iexact Hr3
  isplitl [Hp0]; · iexact Hp0
  isplitl [Hp1]; · iexact Hp1
  isplitl [Hp2]; · iexact Hp2
  iexact Hp3

/-- Exchange 0: the two copies and their waits. -/
theorem wp_ex0 (c : Dev nD) (r : ℕ) (hr : r < 2) (D : List Due) (hD : ∀ x ∈ D, 10 * r + 2 + ((0 : Fin 4)).val < x.2.2.1 ∧ x.2.2.1 < 20)
    {n0 n1 : Dev nD} (hn0 : n0 = p1 0 c) (hn1 : n1 = p1 1 c)
    {o0 o1 : Fin 2 → ℕ} (ho0 : o0 = hOff 0 (p1 0 c)) (ho1 : o1 = hOff 1 (p1 1 c))
    {i0 : ∀ a, o0 a + S512x384.size a ≤ S1024x768.size a} {i1 : ∀ a, o1 a + S512x384.size a ≤ S1024x768.size a}
    {z0 : (show Memref sig (Dev.tc n0 : Thread nD τ).2.kind .vmem S512x384 .bf16 from (u1M 0)).view.ref.isScScratch = false}
    {z1 : (show Memref sig (Dev.tc n1 : Thread nD τ).2.kind .vmem S512x384 .bf16 from (u1M 1)).view.ref.isScScratch = false}
    {x0 : (cM.slice (Rect.unit (s := S1024x768) o0 S512x384.size i0) (fun _ => rfl)).view.WordExact} {x1 : (cM.slice (Rect.unit (s := S1024x768) o1 S512x384.size i1) (fun _ => rfl)).view.WordExact} {y0 : (u1M 0).view.WordExact} {y1 : (u1M 1).view.WordExact}
    {t0 : DmaTarget.Typed .vmem (.dma (rcvS 0 0)) (.remote (Dev.tc n0 : Thread nD τ) (u1M 0) (.dma (sndS 0 0)) z0)}
    {t1 : DmaTarget.Typed .vmem (.dma (rcvS 1 0)) (.remote (Dev.tc n1 : Thread nD τ) (u1M 1) (.dma (sndS 1 0)) z1)}
    {sp0 sp1 sp2 sp3 : Space} {sh0 sh1 sh2 sh3 : Shape} {e0 e1 e2 e3 : EltTy}
    {s0 : Memref sig .tc sp0 sh0 e0} {s1 : Memref sig .tc sp1 sh1 e1} {s2 : Memref sig .tc sp2 sh2 e2} {s3 : Memref sig .tc sp3 sh3 e3}
    {a0 : s0.view.WordExact} {a1 : s1.view.WordExact} {a2 : s2.view.WordExact} {a3 : s3.view.WordExact}
    {b0 : (cM.slice (Rect.unit (s := S1024x768) o0 S512x384.size i0) (fun _ => rfl)).view.WordExact} {b1 : (u1M 0).view.WordExact} {b2 : (cM.slice (Rect.unit (s := S1024x768) o1 S512x384.size i1) (fun _ => rfl)).view.WordExact} {b3 : (u1M 1).view.WordExact}
    {Q : α → sProp 𝕄} {kk : PUnit → Prog (TpuEff nD τ sig (Elt F) Λ₀ .tc) α} :
    iprop(allInv P K ∗ levs ∗ ow c (dEx r 0 ++ D) ∗ exIn r 0 0 c ∗ exIn r 0 1 c
        ∗ hP c 0 (p1 0 c) (P r c) ∗ hP c 1 (p1 1 c) (P r c) ∗ (∃ f, uP (p1 0 c) 0 f) ∗ (∃ f, uP (p1 1 c) 1 f)
        ∗ reached ER (rcvC (p1 0 c) 0 0) r ∗ reached ER (rcvC (p1 1 c) 1 0) r
        ∗ reached ER (barC c) (r + 1))
      ⊢ iprop(((ow c D ∗ exOut r 0 0 c ∗ exOut r 0 1 c ∗ rp0 P r c 0 ∗ rp0 P r c 1)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (cM.slice (Rect.unit (s := S1024x768) o0 S512x384.size i0) (fun _ => rfl)) (.remote (Dev.tc n0 : Thread nD τ) (u1M 0) (.dma (sndS 0 0)) z0) (.dma (rcvS 0 0)) x0 y0 t0) fun _ =>
                .op (.enqueueDma (cM.slice (Rect.unit (s := S1024x768) o1 S512x384.size i1) (fun _ => rfl)) (.remote (Dev.tc n1 : Thread nD τ) (u1M 1) (.dma (sndS 1 0)) z1) (.dma (rcvS 1 0)) x1 y1 t1) fun _ =>
                .op (.waitDma2 (sndS 0 0) s0 (cM.slice (Rect.unit (s := S1024x768) o0 S512x384.size i0) (fun _ => rfl)) a0 b0) fun _ => .op (.waitDma2 (rcvS 0 0) s1 (u1M 0) a1 b1) fun _ =>
                .op (.waitDma2 (sndS 1 0) s2 (cM.slice (Rect.unit (s := S1024x768) o1 S512x384.size i1) (fun _ => rfl)) a2 b2) fun _ => .op (.waitDma2 (rcvS 1 0) s3 (u1M 1) a3 b3) kk) Q) := by
  rw [show dEx r 0 ++ D = (true, some (true, (0 : Fin 2), (0 : Fin 4)), 10 * r + 2, NN 0) :: (false, some (true, (1 : Fin 2), (0 : Fin 4)), 10 * r + 2, NN 0) :: D from rfl]
  simp only [exIn, show peer 0 0 c = p1 0 c from rfl, show peer 1 0 c = p1 1 c from rfl]
  iintro ⟨#HI, #Hlev, HO, ⟨Ha0, Ha1, #Hs0, Ht0, Ht1, Hc1⟩, ⟨Ha2, Ha3, #Hs1, Ht2, Ht3, Hc3⟩, Hp0, Hp1, Hq0, Hq1, #Hr0, #Hr1, #HrB⟩ Hk
  iapply (wp_send0 P K c 0 r hr true rfl ((false, some (true, (1 : Fin 2), (0 : Fin 4)), 10 * r + 2, NN 0) :: D) hn0 (Memref.slice_unit_congr cM ho0 _ _ _ _) rfl rfl rfl) $$ [HO Hp0 Hq0 Ht0 Ht1]
  · isplitr; · iexact HI
    isplitl [HO]; · iexact HO
    isplitl [Hp0]; · iexact Hp0
    isplitl [Hq0]; · iexact Hq0
    isplitr; · iexact HrB
    isplitl [Ht0]; · iexact Ht0
    isplitr; · iexact Hs0
    isplitl [Ht1]; · iexact Ht1
    iexact Hr0
  iintro ⟨Hz0, HO⟩
  iapply (wp_send0 P K c 1 r hr false rfl D hn1 (Memref.slice_unit_congr cM ho1 _ _ _ _) rfl rfl rfl) $$ [HO Hp1 Hq1 Ht2 Ht3]
  · isplitr; · iexact HI
    isplitl [HO]; · iexact HO
    isplitl [Hp1]; · iexact Hp1
    isplitl [Hq1]; · iexact Hq1
    isplitr; · iexact HrB
    isplitl [Ht2]; · iexact Ht2
    isplitr; · iexact Hs1
    isplitl [Ht3]; · iexact Ht3
    iexact Hr1
  iintro ⟨Hz1, HO⟩
  iapply (wp_waits P K c 0 r hr D hD (d0 := (cM.slice (Rect.unit (s := S1024x768) o0 S512x384.size i0) (fun _ => rfl))) (d1 := (u1M 0)) (d2 := (cM.slice (Rect.unit (s := S1024x768) o1 S512x384.size i1) (fun _ => rfl))) (d3 := (u1M 1)) rfl rfl rfl rfl) $$ [HO Hz0 Ha0 Hc1 Ha1 Hz1 Ha2 Hc3 Ha3]
  · isplitr; · iexact HI
    isplitr; · iexact Hlev
    isplitl [HO]; · iexact HO
    isplitl [Hz0 Ha0]; · isplitl [Hz0] <;> iassumption
    isplitl [Hc1 Ha1]; · isplitl [Hc1] <;> iassumption
    isplitl [Hz1 Ha2]; · isplitl [Hz1] <;> iassumption
    isplitl [Hc3] <;> iassumption
  simp only [show sendPay P r c 0 0 = iprop(emp) from rfl, show sendPay P r c 1 0 = iprop(emp) from rfl,
    show recvPay P r c 0 0 = rp0 P r c 0 from rfl, show recvPay P r c 1 0 = rp0 P r c 1 from rfl]
  iintro ⟨HO, Ho0, Ho1, -, Hw0, -, Hw1⟩
  iapply Hk
  isplitl [HO]; · iexact HO
  isplitl [Ho0]; · iexact Ho0
  isplitl [Ho1]; · iexact Ho1
  isplitl [Hw0]; · iexact Hw0
  iexact Hw1

/-- Exchange 1: the two copies and their waits. -/
theorem wp_ex1 (c : Dev nD) (r : ℕ) (hr : r < 2) (D : List Due) (hD : ∀ x ∈ D, 10 * r + 2 + ((1 : Fin 4)).val < x.2.2.1 ∧ x.2.2.1 < 20)
    {n0 n1 : Dev nD} (hn0 : n0 = p2 0 c) (hn1 : n1 = p2 1 c)
    {o0 o1 : Fin 2 → ℕ} (ho0 : o0 = qOff 0 (p2 0 c)) (ho1 : o1 = qOff 1 (p2 1 c))
    {i0 : ∀ a, o0 a + S256x384.size a ≤ S1024x768.size a} {i1 : ∀ a, o1 a + S256x384.size a ≤ S1024x768.size a}
    {z0 : (show Memref sig (Dev.tc n0 : Thread nD τ).2.kind .vmem S256x384 .bf16 from (v1M 0)).view.ref.isScScratch = false}
    {z1 : (show Memref sig (Dev.tc n1 : Thread nD τ).2.kind .vmem S256x384 .bf16 from (v1M 1)).view.ref.isScScratch = false}
    {x0 : (cM.slice (Rect.unit (s := S1024x768) o0 S256x384.size i0) (fun _ => rfl)).view.WordExact} {x1 : (cM.slice (Rect.unit (s := S1024x768) o1 S256x384.size i1) (fun _ => rfl)).view.WordExact} {y0 : (v1M 0).view.WordExact} {y1 : (v1M 1).view.WordExact}
    {t0 : DmaTarget.Typed .vmem (.dma (rcvS 0 1)) (.remote (Dev.tc n0 : Thread nD τ) (v1M 0) (.dma (sndS 0 1)) z0)}
    {t1 : DmaTarget.Typed .vmem (.dma (rcvS 1 1)) (.remote (Dev.tc n1 : Thread nD τ) (v1M 1) (.dma (sndS 1 1)) z1)}
    {sp0 sp1 sp2 sp3 : Space} {sh0 sh1 sh2 sh3 : Shape} {e0 e1 e2 e3 : EltTy}
    {s0 : Memref sig .tc sp0 sh0 e0} {s1 : Memref sig .tc sp1 sh1 e1} {s2 : Memref sig .tc sp2 sh2 e2} {s3 : Memref sig .tc sp3 sh3 e3}
    {a0 : s0.view.WordExact} {a1 : s1.view.WordExact} {a2 : s2.view.WordExact} {a3 : s3.view.WordExact}
    {b0 : (cM.slice (Rect.unit (s := S1024x768) o0 S256x384.size i0) (fun _ => rfl)).view.WordExact} {b1 : (v1M 0).view.WordExact} {b2 : (cM.slice (Rect.unit (s := S1024x768) o1 S256x384.size i1) (fun _ => rfl)).view.WordExact} {b3 : (v1M 1).view.WordExact}
    {Q : α → sProp 𝕄} {kk : PUnit → Prog (TpuEff nD τ sig (Elt F) Λ₀ .tc) α} :
    iprop(allInv P K ∗ levs ∗ ow c (dEx r 1 ++ D) ∗ exIn r 1 0 c ∗ exIn r 1 1 c
        ∗ qP c 0 (p2 0 c) (A1 (P r) c) ∗ qP c 1 (p2 1 c) (A1 (P r) c) ∗ (∃ f, vP (p2 0 c) 0 f) ∗ (∃ f, vP (p2 1 c) 1 f)
        ∗ reached ER (rcvC (p2 0 c) 0 1) r ∗ reached ER (rcvC (p2 1 c) 1 1) r)
      ⊢ iprop(((ow c D ∗ exOut r 1 0 c ∗ exOut r 1 1 c ∗ rp1 P r c 0 ∗ rp1 P r c 1)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (cM.slice (Rect.unit (s := S1024x768) o0 S256x384.size i0) (fun _ => rfl)) (.remote (Dev.tc n0 : Thread nD τ) (v1M 0) (.dma (sndS 0 1)) z0) (.dma (rcvS 0 1)) x0 y0 t0) fun _ =>
                .op (.enqueueDma (cM.slice (Rect.unit (s := S1024x768) o1 S256x384.size i1) (fun _ => rfl)) (.remote (Dev.tc n1 : Thread nD τ) (v1M 1) (.dma (sndS 1 1)) z1) (.dma (rcvS 1 1)) x1 y1 t1) fun _ =>
                .op (.waitDma2 (sndS 0 1) s0 (cM.slice (Rect.unit (s := S1024x768) o0 S256x384.size i0) (fun _ => rfl)) a0 b0) fun _ => .op (.waitDma2 (rcvS 0 1) s1 (v1M 0) a1 b1) fun _ =>
                .op (.waitDma2 (sndS 1 1) s2 (cM.slice (Rect.unit (s := S1024x768) o1 S256x384.size i1) (fun _ => rfl)) a2 b2) fun _ => .op (.waitDma2 (rcvS 1 1) s3 (v1M 1) a3 b3) kk) Q) := by
  rw [show dEx r 1 ++ D = (false, some (true, (0 : Fin 2), (1 : Fin 4)), 10 * r + 2 + 1, NN 1) :: (true, some (true, (1 : Fin 2), (1 : Fin 4)), 10 * r + 2 + 1, NN 1) :: D from rfl]
  simp only [exIn, show peer 0 1 c = p2 0 c from rfl, show peer 1 1 c = p2 1 c from rfl]
  iintro ⟨#HI, #Hlev, HO, ⟨Ha0, Ha1, #Hs0, Ht0, Ht1, Hc1⟩, ⟨Ha2, Ha3, #Hs1, Ht2, Ht3, Hc3⟩, Hp0, Hp1, Hq0, Hq1, #Hr0, #Hr1⟩ Hk
  iapply (wp_send1 P K c 0 r hr false rfl ((true, some (true, (1 : Fin 2), (1 : Fin 4)), 10 * r + 2 + 1, NN 1) :: D) hn0 (Memref.slice_unit_congr cM ho0 _ _ _ _) rfl rfl rfl) $$ [HO Hp0 Hq0 Ht0 Ht1]
  · isplitr; · iexact HI
    isplitl [HO]; · iexact HO
    isplitl [Hp0]; · iexact Hp0
    isplitl [Hq0]; · iexact Hq0
    isplitl [Ht0]; · iexact Ht0
    isplitr; · iexact Hs0
    isplitl [Ht1]; · iexact Ht1
    iexact Hr0
  iintro ⟨Hz0, HO⟩
  iapply (wp_send1 P K c 1 r hr true rfl D hn1 (Memref.slice_unit_congr cM ho1 _ _ _ _) rfl rfl rfl) $$ [HO Hp1 Hq1 Ht2 Ht3]
  · isplitr; · iexact HI
    isplitl [HO]; · iexact HO
    isplitl [Hp1]; · iexact Hp1
    isplitl [Hq1]; · iexact Hq1
    isplitl [Ht2]; · iexact Ht2
    isplitr; · iexact Hs1
    isplitl [Ht3]; · iexact Ht3
    iexact Hr1
  iintro ⟨Hz1, HO⟩
  iapply (wp_waits P K c 1 r hr D hD (d0 := (cM.slice (Rect.unit (s := S1024x768) o0 S256x384.size i0) (fun _ => rfl))) (d1 := (v1M 0)) (d2 := (cM.slice (Rect.unit (s := S1024x768) o1 S256x384.size i1) (fun _ => rfl))) (d3 := (v1M 1)) rfl rfl rfl rfl) $$ [HO Hz0 Ha0 Hc1 Ha1 Hz1 Ha2 Hc3 Ha3]
  · isplitr; · iexact HI
    isplitr; · iexact Hlev
    isplitl [HO]; · iexact HO
    isplitl [Hz0 Ha0]; · isplitl [Hz0] <;> iassumption
    isplitl [Hc1 Ha1]; · isplitl [Hc1] <;> iassumption
    isplitl [Hz1 Ha2]; · isplitl [Hz1] <;> iassumption
    isplitl [Hc3] <;> iassumption
  simp only [show sendPay P r c 0 1 = iprop(emp) from rfl, show sendPay P r c 1 1 = iprop(emp) from rfl,
    show recvPay P r c 0 1 = rp1 P r c 0 from rfl, show recvPay P r c 1 1 = rp1 P r c 1 from rfl]
  iintro ⟨HO, Ho0, Ho1, -, Hw0, -, Hw1⟩
  iapply Hk
  isplitl [HO]; · iexact HO
  isplitl [Ho0]; · iexact Ho0
  isplitl [Ho1]; · iexact Ho1
  isplitl [Hw0]; · iexact Hw0
  iexact Hw1

/-- Exchange 2: the two copies and their waits. -/
theorem wp_ex2 (c : Dev nD) (r : ℕ) (hr : r < 2) (D : List Due) (hD : ∀ x ∈ D, 10 * r + 2 + ((2 : Fin 4)).val < x.2.2.1 ∧ x.2.2.1 < 20)
    {n0 n1 : Dev nD} (hn0 : n0 = p2 0 c) (hn1 : n1 = p2 1 c)
    {o0 o1 : Fin 2 → ℕ} (ho0 : o0 = qOff 0 c) (ho1 : o1 = qOff 1 c)
    {i0 : ∀ a, o0 a + S256x384.size a ≤ S1024x768.size a} {i1 : ∀ a, o1 a + S256x384.size a ≤ S1024x768.size a}
    {z0 : (show Memref sig (Dev.tc n0 : Thread nD τ).2.kind .vmem S256x384 .bf16 from (cM.slice (Rect.unit (s := S1024x768) o0 S256x384.size i0) (fun _ => rfl))).view.ref.isScScratch = false}
    {z1 : (show Memref sig (Dev.tc n1 : Thread nD τ).2.kind .vmem S256x384 .bf16 from (cM.slice (Rect.unit (s := S1024x768) o1 S256x384.size i1) (fun _ => rfl))).view.ref.isScScratch = false}
    {x0 : (cM.slice (Rect.unit (s := S1024x768) o0 S256x384.size i0) (fun _ => rfl)).view.WordExact} {x1 : (cM.slice (Rect.unit (s := S1024x768) o1 S256x384.size i1) (fun _ => rfl)).view.WordExact} {y0 : (cM.slice (Rect.unit (s := S1024x768) o0 S256x384.size i0) (fun _ => rfl)).view.WordExact} {y1 : (cM.slice (Rect.unit (s := S1024x768) o1 S256x384.size i1) (fun _ => rfl)).view.WordExact}
    {t0 : DmaTarget.Typed .vmem (.dma (rcvS 0 2)) (.remote (Dev.tc n0 : Thread nD τ) (cM.slice (Rect.unit (s := S1024x768) o0 S256x384.size i0) (fun _ => rfl)) (.dma (sndS 0 2)) z0)}
    {t1 : DmaTarget.Typed .vmem (.dma (rcvS 1 2)) (.remote (Dev.tc n1 : Thread nD τ) (cM.slice (Rect.unit (s := S1024x768) o1 S256x384.size i1) (fun _ => rfl)) (.dma (sndS 1 2)) z1)}
    {sp0 sp1 sp2 sp3 : Space} {sh0 sh1 sh2 sh3 : Shape} {e0 e1 e2 e3 : EltTy}
    {s0 : Memref sig .tc sp0 sh0 e0} {s1 : Memref sig .tc sp1 sh1 e1} {s2 : Memref sig .tc sp2 sh2 e2} {s3 : Memref sig .tc sp3 sh3 e3}
    {a0 : s0.view.WordExact} {a1 : s1.view.WordExact} {a2 : s2.view.WordExact} {a3 : s3.view.WordExact}
    {b0 : (cM.slice (Rect.unit (s := S1024x768) o0 S256x384.size i0) (fun _ => rfl)).view.WordExact} {b1 : (cM.slice (Rect.unit (s := S1024x768) o0 S256x384.size i0) (fun _ => rfl)).view.WordExact} {b2 : (cM.slice (Rect.unit (s := S1024x768) o1 S256x384.size i1) (fun _ => rfl)).view.WordExact} {b3 : (cM.slice (Rect.unit (s := S1024x768) o1 S256x384.size i1) (fun _ => rfl)).view.WordExact}
    {Q : α → sProp 𝕄} {kk : PUnit → Prog (TpuEff nD τ sig (Elt F) Λ₀ .tc) α} :
    iprop(allInv P K ∗ levs ∗ ow c (dEx r 2 ++ D) ∗ exIn r 2 0 c ∗ exIn r 2 1 c
        ∗ qP c 0 c (AF (P r)) ∗ qP c 1 c (AF (P r)) ∗ (∃ f, qP (p2 0 c) 0 c f) ∗ (∃ f, qP (p2 1 c) 1 c f)
        ∗ reached ER (rcvC (p2 0 c) 0 2) r ∗ reached ER (rcvC (p2 1 c) 1 2) r)
      ⊢ iprop(((ow c D ∗ exOut r 2 0 c ∗ exOut r 2 1 c ∗ qP c 0 c (AF (P r)) ∗ rp2 P r c 0 ∗ qP c 1 c (AF (P r)) ∗ rp2 P r c 1)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (cM.slice (Rect.unit (s := S1024x768) o0 S256x384.size i0) (fun _ => rfl)) (.remote (Dev.tc n0 : Thread nD τ) (cM.slice (Rect.unit (s := S1024x768) o0 S256x384.size i0) (fun _ => rfl)) (.dma (sndS 0 2)) z0) (.dma (rcvS 0 2)) x0 y0 t0) fun _ =>
                .op (.enqueueDma (cM.slice (Rect.unit (s := S1024x768) o1 S256x384.size i1) (fun _ => rfl)) (.remote (Dev.tc n1 : Thread nD τ) (cM.slice (Rect.unit (s := S1024x768) o1 S256x384.size i1) (fun _ => rfl)) (.dma (sndS 1 2)) z1) (.dma (rcvS 1 2)) x1 y1 t1) fun _ =>
                .op (.waitDma2 (sndS 0 2) s0 (cM.slice (Rect.unit (s := S1024x768) o0 S256x384.size i0) (fun _ => rfl)) a0 b0) fun _ => .op (.waitDma2 (rcvS 0 2) s1 (cM.slice (Rect.unit (s := S1024x768) o0 S256x384.size i0) (fun _ => rfl)) a1 b1) fun _ =>
                .op (.waitDma2 (sndS 1 2) s2 (cM.slice (Rect.unit (s := S1024x768) o1 S256x384.size i1) (fun _ => rfl)) a2 b2) fun _ => .op (.waitDma2 (rcvS 1 2) s3 (cM.slice (Rect.unit (s := S1024x768) o1 S256x384.size i1) (fun _ => rfl)) a3 b3) kk) Q) := by
  rw [show dEx r 2 ++ D = (false, some (true, (0 : Fin 2), (2 : Fin 4)), 10 * r + 2 + 2, NN 2) :: (true, some (true, (1 : Fin 2), (2 : Fin 4)), 10 * r + 2 + 2, NN 2) :: D from rfl]
  simp only [exIn, show peer 0 2 c = p2 0 c from rfl, show peer 1 2 c = p2 1 c from rfl]
  iintro ⟨#HI, #Hlev, HO, ⟨Ha0, Ha1, #Hs0, Ht0, Ht1, Hc1⟩, ⟨Ha2, Ha3, #Hs1, Ht2, Ht3, Hc3⟩, Hp0, Hp1, ⟨%g0, Hq0⟩, ⟨%g1, Hq1⟩, #Hr0, #Hr1⟩ Hk
  iapply (wp_send2 P K c 0 r hr false rfl ((true, some (true, (1 : Fin 2), (2 : Fin 4)), 10 * r + 2 + 2, NN 2) :: D) hn0 (Memref.slice_unit_congr cM ho0 _ _ _ _) (Memref.slice_unit_congr cM ho0 _ _ _ _) rfl rfl (g := g0)) $$ [HO Hp0 Hq0 Ht0 Ht1]
  · isplitr; · iexact HI
    isplitl [HO]; · iexact HO
    isplitl [Hp0]; · iexact Hp0
    isplitl [Hq0]; · iexact Hq0
    isplitl [Ht0]; · iexact Ht0
    isplitr; · iexact Hs0
    isplitl [Ht1]; · iexact Ht1
    iexact Hr0
  iintro ⟨Hz0, HO⟩
  iapply (wp_send2 P K c 1 r hr true rfl D hn1 (Memref.slice_unit_congr cM ho1 _ _ _ _) (Memref.slice_unit_congr cM ho1 _ _ _ _) rfl rfl (g := g1)) $$ [HO Hp1 Hq1 Ht2 Ht3]
  · isplitr; · iexact HI
    isplitl [HO]; · iexact HO
    isplitl [Hp1]; · iexact Hp1
    isplitl [Hq1]; · iexact Hq1
    isplitl [Ht2]; · iexact Ht2
    isplitr; · iexact Hs1
    isplitl [Ht3]; · iexact Ht3
    iexact Hr1
  iintro ⟨Hz1, HO⟩
  iapply (wp_waits P K c 2 r hr D hD (d0 := (cM.slice (Rect.unit (s := S1024x768) o0 S256x384.size i0) (fun _ => rfl))) (d1 := (cM.slice (Rect.unit (s := S1024x768) o0 S256x384.size i0) (fun _ => rfl))) (d2 := (cM.slice (Rect.unit (s := S1024x768) o1 S256x384.size i1) (fun _ => rfl))) (d3 := (cM.slice (Rect.unit (s := S1024x768) o1 S256x384.size i1) (fun _ => rfl))) rfl rfl rfl rfl) $$ [HO Hz0 Ha0 Hc1 Ha1 Hz1 Ha2 Hc3 Ha3]
  · isplitr; · iexact HI
    isplitr; · iexact Hlev
    isplitl [HO]; · iexact HO
    isplitl [Hz0 Ha0]; · isplitl [Hz0] <;> iassumption
    isplitl [Hc1 Ha1]; · isplitl [Hc1] <;> iassumption
    isplitl [Hz1 Ha2]; · isplitl [Hz1] <;> iassumption
    isplitl [Hc3] <;> iassumption
  simp only [show sendPay P r c 0 2 = qP c 0 c (AF (P r)) from rfl, show sendPay P r c 1 2 = qP c 1 c (AF (P r)) from rfl,
    show recvPay P r c 0 2 = rp2 P r c 0 from rfl, show recvPay P r c 1 2 = rp2 P r c 1 from rfl]
  iintro ⟨HO, Ho0, Ho1, Hy0, Hw0, Hy1, Hw1⟩
  iapply Hk
  isplitl [HO]; · iexact HO
  isplitl [Ho0]; · iexact Ho0
  isplitl [Ho1]; · iexact Ho1
  isplitl [Hy0]; · iexact Hy0
  isplitl [Hw0]; · iexact Hw0
  isplitl [Hy1]; · iexact Hy1
  iexact Hw1

/-- Exchange 3: the two copies and their waits. -/
theorem wp_ex3 (c : Dev nD) (r : ℕ) (hr : r < 2) (D : List Due) (hD : ∀ x ∈ D, 10 * r + 2 + ((3 : Fin 4)).val < x.2.2.1 ∧ x.2.2.1 < 20)
    {n0 n1 : Dev nD} (hn0 : n0 = p1 0 c) (hn1 : n1 = p1 1 c)
    {o0 o1 : Fin 2 → ℕ} (ho0 : o0 = hOff 0 c) (ho1 : o1 = hOff 1 c)
    {i0 : ∀ a, o0 a + S512x384.size a ≤ S1024x768.size a} {i1 : ∀ a, o1 a + S512x384.size a ≤ S1024x768.size a}
    {z0 : (show Memref sig (Dev.tc n0 : Thread nD τ).2.kind .vmem S512x384 .bf16 from (cM.slice (Rect.unit (s := S1024x768) o0 S512x384.size i0) (fun _ => rfl))).view.ref.isScScratch = false}
    {z1 : (show Memref sig (Dev.tc n1 : Thread nD τ).2.kind .vmem S512x384 .bf16 from (cM.slice (Rect.unit (s := S1024x768) o1 S512x384.size i1) (fun _ => rfl))).view.ref.isScScratch = false}
    {x0 : (cM.slice (Rect.unit (s := S1024x768) o0 S512x384.size i0) (fun _ => rfl)).view.WordExact} {x1 : (cM.slice (Rect.unit (s := S1024x768) o1 S512x384.size i1) (fun _ => rfl)).view.WordExact} {y0 : (cM.slice (Rect.unit (s := S1024x768) o0 S512x384.size i0) (fun _ => rfl)).view.WordExact} {y1 : (cM.slice (Rect.unit (s := S1024x768) o1 S512x384.size i1) (fun _ => rfl)).view.WordExact}
    {t0 : DmaTarget.Typed .vmem (.dma (rcvS 0 3)) (.remote (Dev.tc n0 : Thread nD τ) (cM.slice (Rect.unit (s := S1024x768) o0 S512x384.size i0) (fun _ => rfl)) (.dma (sndS 0 3)) z0)}
    {t1 : DmaTarget.Typed .vmem (.dma (rcvS 1 3)) (.remote (Dev.tc n1 : Thread nD τ) (cM.slice (Rect.unit (s := S1024x768) o1 S512x384.size i1) (fun _ => rfl)) (.dma (sndS 1 3)) z1)}
    {sp0 sp1 sp2 sp3 : Space} {sh0 sh1 sh2 sh3 : Shape} {e0 e1 e2 e3 : EltTy}
    {s0 : Memref sig .tc sp0 sh0 e0} {s1 : Memref sig .tc sp1 sh1 e1} {s2 : Memref sig .tc sp2 sh2 e2} {s3 : Memref sig .tc sp3 sh3 e3}
    {a0 : s0.view.WordExact} {a1 : s1.view.WordExact} {a2 : s2.view.WordExact} {a3 : s3.view.WordExact}
    {b0 : (cM.slice (Rect.unit (s := S1024x768) o0 S512x384.size i0) (fun _ => rfl)).view.WordExact} {b1 : (cM.slice (Rect.unit (s := S1024x768) o0 S512x384.size i0) (fun _ => rfl)).view.WordExact} {b2 : (cM.slice (Rect.unit (s := S1024x768) o1 S512x384.size i1) (fun _ => rfl)).view.WordExact} {b3 : (cM.slice (Rect.unit (s := S1024x768) o1 S512x384.size i1) (fun _ => rfl)).view.WordExact}
    {Q : α → sProp 𝕄} {kk : PUnit → Prog (TpuEff nD τ sig (Elt F) Λ₀ .tc) α} :
    iprop(allInv P K ∗ levs ∗ ow c (dEx r 3 ++ D) ∗ exIn r 3 0 c ∗ exIn r 3 1 c
        ∗ hP c 0 c (AF (P r)) ∗ hP c 1 c (AF (P r)) ∗ (∃ f, hP (p1 0 c) 0 c f) ∗ (∃ f, hP (p1 1 c) 1 c f)
        ∗ reached ER (rcvC (p1 0 c) 0 3) r ∗ reached ER (rcvC (p1 1 c) 1 3) r)
      ⊢ iprop(((ow c D ∗ exOut r 3 0 c ∗ exOut r 3 1 c ∗ hP c 0 c (AF (P r)) ∗ rp3 P r c 0 ∗ hP c 1 c (AF (P r)) ∗ rp3 P r c 1)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (cM.slice (Rect.unit (s := S1024x768) o0 S512x384.size i0) (fun _ => rfl)) (.remote (Dev.tc n0 : Thread nD τ) (cM.slice (Rect.unit (s := S1024x768) o0 S512x384.size i0) (fun _ => rfl)) (.dma (sndS 0 3)) z0) (.dma (rcvS 0 3)) x0 y0 t0) fun _ =>
                .op (.enqueueDma (cM.slice (Rect.unit (s := S1024x768) o1 S512x384.size i1) (fun _ => rfl)) (.remote (Dev.tc n1 : Thread nD τ) (cM.slice (Rect.unit (s := S1024x768) o1 S512x384.size i1) (fun _ => rfl)) (.dma (sndS 1 3)) z1) (.dma (rcvS 1 3)) x1 y1 t1) fun _ =>
                .op (.waitDma2 (sndS 0 3) s0 (cM.slice (Rect.unit (s := S1024x768) o0 S512x384.size i0) (fun _ => rfl)) a0 b0) fun _ => .op (.waitDma2 (rcvS 0 3) s1 (cM.slice (Rect.unit (s := S1024x768) o0 S512x384.size i0) (fun _ => rfl)) a1 b1) fun _ =>
                .op (.waitDma2 (sndS 1 3) s2 (cM.slice (Rect.unit (s := S1024x768) o1 S512x384.size i1) (fun _ => rfl)) a2 b2) fun _ => .op (.waitDma2 (rcvS 1 3) s3 (cM.slice (Rect.unit (s := S1024x768) o1 S512x384.size i1) (fun _ => rfl)) a3 b3) kk) Q) := by
  rw [show dEx r 3 ++ D = (true, some (true, (0 : Fin 2), (3 : Fin 4)), 10 * r + 2 + 3, NN 3) :: (false, some (true, (1 : Fin 2), (3 : Fin 4)), 10 * r + 2 + 3, NN 3) :: D from rfl]
  simp only [exIn, show peer 0 3 c = p1 0 c from rfl, show peer 1 3 c = p1 1 c from rfl]
  iintro ⟨#HI, #Hlev, HO, ⟨Ha0, Ha1, #Hs0, Ht0, Ht1, Hc1⟩, ⟨Ha2, Ha3, #Hs1, Ht2, Ht3, Hc3⟩, Hp0, Hp1, ⟨%g0, Hq0⟩, ⟨%g1, Hq1⟩, #Hr0, #Hr1⟩ Hk
  iapply (wp_send3 P K c 0 r hr true rfl ((false, some (true, (1 : Fin 2), (3 : Fin 4)), 10 * r + 2 + 3, NN 3) :: D) hn0 (Memref.slice_unit_congr cM ho0 _ _ _ _) (Memref.slice_unit_congr cM ho0 _ _ _ _) rfl rfl (g := g0)) $$ [HO Hp0 Hq0 Ht0 Ht1]
  · isplitr; · iexact HI
    isplitl [HO]; · iexact HO
    isplitl [Hp0]; · iexact Hp0
    isplitl [Hq0]; · iexact Hq0
    isplitl [Ht0]; · iexact Ht0
    isplitr; · iexact Hs0
    isplitl [Ht1]; · iexact Ht1
    iexact Hr0
  iintro ⟨Hz0, HO⟩
  iapply (wp_send3 P K c 1 r hr false rfl D hn1 (Memref.slice_unit_congr cM ho1 _ _ _ _) (Memref.slice_unit_congr cM ho1 _ _ _ _) rfl rfl (g := g1)) $$ [HO Hp1 Hq1 Ht2 Ht3]
  · isplitr; · iexact HI
    isplitl [HO]; · iexact HO
    isplitl [Hp1]; · iexact Hp1
    isplitl [Hq1]; · iexact Hq1
    isplitl [Ht2]; · iexact Ht2
    isplitr; · iexact Hs1
    isplitl [Ht3]; · iexact Ht3
    iexact Hr1
  iintro ⟨Hz1, HO⟩
  iapply (wp_waits P K c 3 r hr D hD (d0 := (cM.slice (Rect.unit (s := S1024x768) o0 S512x384.size i0) (fun _ => rfl))) (d1 := (cM.slice (Rect.unit (s := S1024x768) o0 S512x384.size i0) (fun _ => rfl))) (d2 := (cM.slice (Rect.unit (s := S1024x768) o1 S512x384.size i1) (fun _ => rfl))) (d3 := (cM.slice (Rect.unit (s := S1024x768) o1 S512x384.size i1) (fun _ => rfl))) rfl rfl rfl rfl) $$ [HO Hz0 Ha0 Hc1 Ha1 Hz1 Ha2 Hc3 Ha3]
  · isplitr; · iexact HI
    isplitr; · iexact Hlev
    isplitl [HO]; · iexact HO
    isplitl [Hz0 Ha0]; · isplitl [Hz0] <;> iassumption
    isplitl [Hc1 Ha1]; · isplitl [Hc1] <;> iassumption
    isplitl [Hz1 Ha2]; · isplitl [Hz1] <;> iassumption
    isplitl [Hc3] <;> iassumption
  simp only [show sendPay P r c 0 3 = hP c 0 c (AF (P r)) from rfl, show sendPay P r c 1 3 = hP c 1 c (AF (P r)) from rfl,
    show recvPay P r c 0 3 = rp3 P r c 0 from rfl, show recvPay P r c 1 3 = rp3 P r c 1 from rfl]
  iintro ⟨HO, Ho0, Ho1, Hy0, Hw0, Hy1, Hw1⟩
  iapply Hk
  isplitl [HO]; · iexact HO
  isplitl [Ho0]; · iexact Ho0
  isplitl [Ho1]; · iexact Ho1
  isplitl [Hy0]; · iexact Hy0
  isplitl [Hw0]; · iexact Hw0
  isplitl [Hy1]; · iexact Hy1
  iexact Hw1

end Cert.Butterfly

end
-- ==== Proof.AllReduce.lean ====
/-
# 01_k — one all-reduce

The four exchanges and the additions between them, from the halves of the own buffer at the device's partial sums to the
whole buffer at the finished sums.
-/
module

public import proofs.«01_k».proof.Proof.Exchange
public import Idealize.ShloMosaic.Lib.Tactic

@[expose] public section

set_option backward.proofsInPublic true

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (P : ℕ → Dev nD → CB F) (K : Dev nD × CK → ℕ)

variable {α : Type}

/-! ## Pieces of the buffers -/

omit [FloatOps F] [Named F] in
/-- A half is its two quarters. -/
theorem h_split (d : Dev nD) (s : Fin 2) (c : Dev nD) (f : CB F) : (hP d s c f : sProp 𝕄) ⊣⊢ iprop(qP d s c f ∗ qP d s (p2 s c) f) := by
  unfold hP qP; rw [← q_union s c]; exact pointsTo_union (q_disj s c)

omit [FloatOps F] [Named F] in
/-- The buffer is the four halves. -/
theorem c_split (c : Dev nD) (f : CB F) : ((((c : Thread nD τ).loc cc0_scratch0) ↦[Finset.univ]{fullShare} f) : sProp 𝕄)
    ⊣⊢ iprop((hP c 0 c f ∗ hP c 0 (p1 0 c) f) ∗ (hP c 1 c f ∗ hP c 1 (p1 1 c) f)) := by
  unfold hP
  rw [show (Finset.univ : Finset S1024x768.Idx) = _ from (sub_union c).symm]
  exact (pointsTo_union (sub_disj c)).trans (sep_congr (pointsTo_union (h_disj 0 c)) (pointsTo_union (h_disj 1 c)))

omit [FloatOps F] [Named F] in
/-- The first landing buffer is its two column halves. -/
theorem u_split (c : Dev nD) (f : UBf F) : ((((c : Thread nD τ).loc cc0_scratch1) ↦[Finset.univ]{fullShare} f) : sProp 𝕄) ⊣⊢ iprop(uP c 0 f ∗ uP c 1 f) := by
  unfold uP
  rw [show (Finset.univ : Finset S512x768.Idx) = _ from u_union.symm]
  exact pointsTo_union u_disj

omit [FloatOps F] [Named F] in
/-- The second landing buffer is its two column halves. -/
theorem v_split (c : Dev nD) (f : VBf F) : ((((c : Thread nD τ).loc cc0_scratch2) ↦[Finset.univ]{fullShare} f) : sProp 𝕄) ⊣⊢ iprop(vP c 0 f ∗ vP c 1 f) := by
  unfold vP
  rw [show (Finset.univ : Finset S256x768.Idx) = _ from v_union.symm]
  exact pointsTo_union v_disj

omit [FloatOps F] [Named F] in
/-- The first landing buffer from its halves, whatever is in them. -/
theorem u_join (c : Dev nD) : (iprop((∃ f, uP c 0 f) ∗ (∃ f, uP c 1 f)) : sProp 𝕄) ⊢ iprop(∃ f : UBf F, ((c : Thread nD τ).loc cc0_scratch1) ↦[Finset.univ]{fullShare} f) := by
  iintro ⟨⟨%f, Hf⟩, ⟨%g, Hg⟩⟩
  unfold uP
  iexists (fun i : S512x768.Idx => if i ∈ (u1M 0).view.set then f i else g i)
  iapply (u_split c _).2
  unfold uP
  isplitl [Hf]
  · ihave Hf' := (Entails.of_eq (pointsTo_congr (g := (fun i : S512x768.Idx => if i ∈ (u1M 0).view.set then f i else g i)) fun i hi => (if_pos hi).symm)) $$ Hf
    iexact Hf'
  · ihave Hg' := (Entails.of_eq (pointsTo_congr (g := (fun i : S512x768.Idx => if i ∈ (u1M 0).view.set then f i else g i)) fun i hi => (if_neg (Finset.disjoint_right.mp u_disj hi)).symm)) $$ Hg
    iexact Hg'

omit [FloatOps F] [Named F] in
/-- The second landing buffer from its halves, whatever is in them. -/
theorem v_join (c : Dev nD) : (iprop((∃ f, vP c 0 f) ∗ (∃ f, vP c 1 f)) : sProp 𝕄) ⊢ iprop(∃ f : VBf F, ((c : Thread nD τ).loc cc0_scratch2) ↦[Finset.univ]{fullShare} f) := by
  iintro ⟨⟨%f, Hf⟩, ⟨%g, Hg⟩⟩
  unfold vP
  iexists (fun i : S256x768.Idx => if i ∈ (v1M 0).view.set then f i else g i)
  iapply (v_split c _).2
  unfold vP
  isplitl [Hf]
  · ihave Hf' := (Entails.of_eq (pointsTo_congr (g := (fun i : S256x768.Idx => if i ∈ (v1M 0).view.set then f i else g i)) fun i hi => (if_pos hi).symm)) $$ Hf
    iexact Hf'
  · ihave Hg' := (Entails.of_eq (pointsTo_congr (g := (fun i : S256x768.Idx => if i ∈ (v1M 0).view.set then f i else g i)) fun i hi => (if_neg (Finset.disjoint_right.mp v_disj hi)).symm)) $$ Hg
    iexact Hg'

variable (P : ℕ → Dev nD → CB F) (K : Dev nD × CK → ℕ)

/-- What a device holds for the copies of a round. -/
def exAll (r : ℕ) (c : Dev nD) : sProp 𝕄 :=
  iprop((exIn r 0 0 c ∗ exIn r 0 1 c) ∗ (exIn r 1 0 c ∗ exIn r 1 1 c) ∗ (exIn r 2 0 c ∗ exIn r 2 1 c) ∗ (exIn r 3 0 c ∗ exIn r 3 1 c))
/-- What it holds of them at the round's end. -/
def exDone (r : ℕ) (c : Dev nD) : sProp 𝕄 :=
  iprop((exOut r 0 0 c ∗ exOut r 0 1 c) ∗ (exOut r 1 0 c ∗ exOut r 1 1 c) ∗ (exOut r 2 0 c ∗ exOut r 2 1 c) ∗ (exOut r 3 0 c ∗ exOut r 3 1 c))

/-- The dues after exchange `k` are at later levels. -/
theorem dues_after (r : ℕ) (hr : r < 2) (D : List Due) (hD : ∀ x ∈ D, 10 * r + 5 < x.2.2.1 ∧ x.2.2.1 < 20) :
    (∀ x ∈ dEx r 1 ++ (dEx r 2 ++ (dEx r 3 ++ D)), 10 * r + 2 + (0 : Fin 4).val < x.2.2.1 ∧ x.2.2.1 < 20)
    ∧ (∀ x ∈ dEx r 2 ++ (dEx r 3 ++ D), 10 * r + 2 + (1 : Fin 4).val < x.2.2.1 ∧ x.2.2.1 < 20)
    ∧ (∀ x ∈ dEx r 3 ++ D, 10 * r + 2 + (2 : Fin 4).val < x.2.2.1 ∧ x.2.2.1 < 20)
    ∧ (∀ x ∈ D, 10 * r + 2 + (3 : Fin 4).val < x.2.2.1 ∧ x.2.2.1 < 20) := by
  have key : ∀ k : Fin 4, ∀ x ∈ dEx r k, x.2.2.1 = 10 * r + 2 + k.val := by
    intro k x hx; unfold dEx at hx
    rcases List.mem_cons.mp hx with rfl | hx
    · rfl
    rcases List.mem_cons.mp hx with rfl | hx
    · rfl
    · cases hx
  have v : (0 : Fin 4).val = 0 ∧ (1 : Fin 4).val = 1 ∧ (2 : Fin 4).val = 2 ∧ (3 : Fin 4).val = 3 := ⟨rfl, rfl, rfl, rfl⟩
  have k1 := key 1; have k2 := key 2; have k3 := key 3
  rw [v.2.1] at k1; rw [v.2.2.1] at k2; rw [v.2.2.2] at k3
  rw [v.1, v.2.1, v.2.2.1, v.2.2.2]
  have d3 : ∀ x ∈ D, 10 * r + 2 + 3 < x.2.2.1 ∧ x.2.2.1 < 20 := hD
  have d2 : ∀ x ∈ dEx r 3 ++ D, 10 * r + 2 + 2 < x.2.2.1 ∧ x.2.2.1 < 20 := fun x hx => by
    rcases List.mem_append.mp hx with h | h
    · have := k3 x h; omega
    · have := d3 x h; omega
  have d1 : ∀ x ∈ dEx r 2 ++ (dEx r 3 ++ D), 10 * r + 2 + 1 < x.2.2.1 ∧ x.2.2.1 < 20 := fun x hx => by
    rcases List.mem_append.mp hx with h | h
    · have := k2 x h; omega
    · have := d2 x h; omega
  refine ⟨fun x hx => ?_, d1, d2, d3⟩
  rcases List.mem_append.mp hx with h | h
  · have := k1 x h; omega
  · have := d1 x h; omega

variable {α : Type}

/-- One all-reduce. -/
theorem wp_ar (c : Dev nD) (r : ℕ) (hr : r < 2) (D : List Due) (hD : ∀ x ∈ D, 10 * r + 5 < x.2.2.1 ∧ x.2.2.1 < 20)
    {nA0 nA1 : Dev nD} (hnA0 : nA0 = p1 0 c) (hnA1 : nA1 = p1 1 c)
    {oA0 oA1 : Fin 2 → ℕ} (hoA0 : oA0 = hOff 0 (p1 0 c)) (hoA1 : oA1 = hOff 1 (p1 1 c))
    {iA0 : ∀ a, oA0 a + S512x384.size a ≤ S1024x768.size a} {iA1 : ∀ a, oA1 a + S512x384.size a ≤ S1024x768.size a}
    {zA0 : (show Memref sig (Dev.tc nA0 : Thread nD τ).2.kind .vmem S512x384 .bf16 from (u1M 0)).view.ref.isScScratch = false}
    {zA1 : (show Memref sig (Dev.tc nA1 : Thread nD τ).2.kind .vmem S512x384 .bf16 from (u1M 1)).view.ref.isScScratch = false}
    {xA0 : (cM.slice (Rect.unit (s := S1024x768) oA0 S512x384.size iA0) (fun _ => rfl)).view.WordExact} {xA1 : (cM.slice (Rect.unit (s := S1024x768) oA1 S512x384.size iA1) (fun _ => rfl)).view.WordExact} {yA0 : (u1M 0).view.WordExact} {yA1 : (u1M 1).view.WordExact}
    {tA0 : DmaTarget.Typed .vmem (.dma (rcvS 0 0)) (.remote (Dev.tc nA0 : Thread nD τ) (u1M 0) (.dma (sndS 0 0)) zA0)}
    {tA1 : DmaTarget.Typed .vmem (.dma (rcvS 1 0)) (.remote (Dev.tc nA1 : Thread nD τ) (u1M 1) (.dma (sndS 1 0)) zA1)}
    {spA0 spA1 spA2 spA3 : Space} {shA0 shA1 shA2 shA3 : Shape} {eA0 eA1 eA2 eA3 : EltTy}
    {sA0 : Memref sig .tc spA0 shA0 eA0} {sA1 : Memref sig .tc spA1 shA1 eA1} {sA2 : Memref sig .tc spA2 shA2 eA2} {sA3 : Memref sig .tc spA3 shA3 eA3}
    {aA0 : sA0.view.WordExact} {aA1 : sA1.view.WordExact} {aA2 : sA2.view.WordExact} {aA3 : sA3.view.WordExact}
    {bA0 : (cM.slice (Rect.unit (s := S1024x768) oA0 S512x384.size iA0) (fun _ => rfl)).view.WordExact} {bA1 : (u1M 0).view.WordExact} {bA2 : (cM.slice (Rect.unit (s := S1024x768) oA1 S512x384.size iA1) (fun _ => rfl)).view.WordExact} {bA3 : (u1M 1).view.WordExact}
    {payE0 : Vec F S512x384 .bf16 → Vec F S512x384 .bf16 → FVec F S512x384 .bf16} (hpayE0 : ∀ v w i, payE0 v w i = acc (v i) (w i))
    {lE0 : cM.view.LoadsAt (hR 0 c).toLoadRect} {mE0 : uM.view.LoadsAt (uR 0).toLoadRect} {kE0 : cM.view.LoadsAt (hR 0 c).toLoadRect}
    {wE0 : (cM.access (hR 0 c) : View sig .tc _ _ _).Stores Finset.univ} {vE0 : (Finset.univ : Finset (hR 0 c).shape.Idx) = Finset.univ ∨ ∀ a, (hR 0 c).stride a = 1}
    {payE1 : Vec F S512x384 .bf16 → Vec F S512x384 .bf16 → FVec F S512x384 .bf16} (hpayE1 : ∀ v w i, payE1 v w i = acc (v i) (w i))
    {lE1 : cM.view.LoadsAt (hR 1 c).toLoadRect} {mE1 : uM.view.LoadsAt (uR 1).toLoadRect} {kE1 : cM.view.LoadsAt (hR 1 c).toLoadRect}
    {wE1 : (cM.access (hR 1 c) : View sig .tc _ _ _).Stores Finset.univ} {vE1 : (Finset.univ : Finset (hR 1 c).shape.Idx) = Finset.univ ∨ ∀ a, (hR 1 c).stride a = 1}
    {nB0 nB1 : Dev nD} (hnB0 : nB0 = p2 0 c) (hnB1 : nB1 = p2 1 c)
    {oB0 oB1 : Fin 2 → ℕ} (hoB0 : oB0 = qOff 0 (p2 0 c)) (hoB1 : oB1 = qOff 1 (p2 1 c))
    {iB0 : ∀ a, oB0 a + S256x384.size a ≤ S1024x768.size a} {iB1 : ∀ a, oB1 a + S256x384.size a ≤ S1024x768.size a}
    {zB0 : (show Memref sig (Dev.tc nB0 : Thread nD τ).2.kind .vmem S256x384 .bf16 from (v1M 0)).view.ref.isScScratch = false}
    {zB1 : (show Memref sig (Dev.tc nB1 : Thread nD τ).2.kind .vmem S256x384 .bf16 from (v1M 1)).view.ref.isScScratch = false}
    {xB0 : (cM.slice (Rect.unit (s := S1024x768) oB0 S256x384.size iB0) (fun _ => rfl)).view.WordExact} {xB1 : (cM.slice (Rect.unit (s := S1024x768) oB1 S256x384.size iB1) (fun _ => rfl)).view.WordExact} {yB0 : (v1M 0).view.WordExact} {yB1 : (v1M 1).view.WordExact}
    {tB0 : DmaTarget.Typed .vmem (.dma (rcvS 0 1)) (.remote (Dev.tc nB0 : Thread nD τ) (v1M 0) (.dma (sndS 0 1)) zB0)}
    {tB1 : DmaTarget.Typed .vmem (.dma (rcvS 1 1)) (.remote (Dev.tc nB1 : Thread nD τ) (v1M 1) (.dma (sndS 1 1)) zB1)}
    {spB0 spB1 spB2 spB3 : Space} {shB0 shB1 shB2 shB3 : Shape} {eB0 eB1 eB2 eB3 : EltTy}
    {sB0 : Memref sig .tc spB0 shB0 eB0} {sB1 : Memref sig .tc spB1 shB1 eB1} {sB2 : Memref sig .tc spB2 shB2 eB2} {sB3 : Memref sig .tc spB3 shB3 eB3}
    {aB0 : sB0.view.WordExact} {aB1 : sB1.view.WordExact} {aB2 : sB2.view.WordExact} {aB3 : sB3.view.WordExact}
    {bB0 : (cM.slice (Rect.unit (s := S1024x768) oB0 S256x384.size iB0) (fun _ => rfl)).view.WordExact} {bB1 : (v1M 0).view.WordExact} {bB2 : (cM.slice (Rect.unit (s := S1024x768) oB1 S256x384.size iB1) (fun _ => rfl)).view.WordExact} {bB3 : (v1M 1).view.WordExact}
    {payG0 : Vec F S256x384 .bf16 → Vec F S256x384 .bf16 → FVec F S256x384 .bf16} (hpayG0 : ∀ v w i, payG0 v w i = acc (v i) (w i))
    {lG0 : cM.view.LoadsAt (qR 0 c).toLoadRect} {mG0 : vM.view.LoadsAt (vR 0).toLoadRect} {kG0 : cM.view.LoadsAt (qR 0 c).toLoadRect}
    {wG0 : (cM.access (qR 0 c) : View sig .tc _ _ _).Stores Finset.univ} {vG0 : (Finset.univ : Finset (qR 0 c).shape.Idx) = Finset.univ ∨ ∀ a, (qR 0 c).stride a = 1}
    {payG1 : Vec F S256x384 .bf16 → Vec F S256x384 .bf16 → FVec F S256x384 .bf16} (hpayG1 : ∀ v w i, payG1 v w i = acc (v i) (w i))
    {lG1 : cM.view.LoadsAt (qR 1 c).toLoadRect} {mG1 : vM.view.LoadsAt (vR 1).toLoadRect} {kG1 : cM.view.LoadsAt (qR 1 c).toLoadRect}
    {wG1 : (cM.access (qR 1 c) : View sig .tc _ _ _).Stores Finset.univ} {vG1 : (Finset.univ : Finset (qR 1 c).shape.Idx) = Finset.univ ∨ ∀ a, (qR 1 c).stride a = 1}
    {nC0 nC1 : Dev nD} (hnC0 : nC0 = p2 0 c) (hnC1 : nC1 = p2 1 c)
    {oC0 oC1 : Fin 2 → ℕ} (hoC0 : oC0 = qOff 0 c) (hoC1 : oC1 = qOff 1 c)
    {iC0 : ∀ a, oC0 a + S256x384.size a ≤ S1024x768.size a} {iC1 : ∀ a, oC1 a + S256x384.size a ≤ S1024x768.size a}
    {zC0 : (show Memref sig (Dev.tc nC0 : Thread nD τ).2.kind .vmem S256x384 .bf16 from (cM.slice (Rect.unit (s := S1024x768) oC0 S256x384.size iC0) (fun _ => rfl))).view.ref.isScScratch = false}
    {zC1 : (show Memref sig (Dev.tc nC1 : Thread nD τ).2.kind .vmem S256x384 .bf16 from (cM.slice (Rect.unit (s := S1024x768) oC1 S256x384.size iC1) (fun _ => rfl))).view.ref.isScScratch = false}
    {xC0 : (cM.slice (Rect.unit (s := S1024x768) oC0 S256x384.size iC0) (fun _ => rfl)).view.WordExact} {xC1 : (cM.slice (Rect.unit (s := S1024x768) oC1 S256x384.size iC1) (fun _ => rfl)).view.WordExact} {yC0 : (cM.slice (Rect.unit (s := S1024x768) oC0 S256x384.size iC0) (fun _ => rfl)).view.WordExact} {yC1 : (cM.slice (Rect.unit (s := S1024x768) oC1 S256x384.size iC1) (fun _ => rfl)).view.WordExact}
    {tC0 : DmaTarget.Typed .vmem (.dma (rcvS 0 2)) (.remote (Dev.tc nC0 : Thread nD τ) (cM.slice (Rect.unit (s := S1024x768) oC0 S256x384.size iC0) (fun _ => rfl)) (.dma (sndS 0 2)) zC0)}
    {tC1 : DmaTarget.Typed .vmem (.dma (rcvS 1 2)) (.remote (Dev.tc nC1 : Thread nD τ) (cM.slice (Rect.unit (s := S1024x768) oC1 S256x384.size iC1) (fun _ => rfl)) (.dma (sndS 1 2)) zC1)}
    {spC0 spC1 spC2 spC3 : Space} {shC0 shC1 shC2 shC3 : Shape} {eC0 eC1 eC2 eC3 : EltTy}
    {sC0 : Memref sig .tc spC0 shC0 eC0} {sC1 : Memref sig .tc spC1 shC1 eC1} {sC2 : Memref sig .tc spC2 shC2 eC2} {sC3 : Memref sig .tc spC3 shC3 eC3}
    {aC0 : sC0.view.WordExact} {aC1 : sC1.view.WordExact} {aC2 : sC2.view.WordExact} {aC3 : sC3.view.WordExact}
    {bC0 : (cM.slice (Rect.unit (s := S1024x768) oC0 S256x384.size iC0) (fun _ => rfl)).view.WordExact} {bC1 : (cM.slice (Rect.unit (s := S1024x768) oC0 S256x384.size iC0) (fun _ => rfl)).view.WordExact} {bC2 : (cM.slice (Rect.unit (s := S1024x768) oC1 S256x384.size iC1) (fun _ => rfl)).view.WordExact} {bC3 : (cM.slice (Rect.unit (s := S1024x768) oC1 S256x384.size iC1) (fun _ => rfl)).view.WordExact}
    {nD0 nD1 : Dev nD} (hnD0 : nD0 = p1 0 c) (hnD1 : nD1 = p1 1 c)
    {oD0 oD1 : Fin 2 → ℕ} (hoD0 : oD0 = hOff 0 c) (hoD1 : oD1 = hOff 1 c)
    {iD0 : ∀ a, oD0 a + S512x384.size a ≤ S1024x768.size a} {iD1 : ∀ a, oD1 a + S512x384.size a ≤ S1024x768.size a}
    {zD0 : (show Memref sig (Dev.tc nD0 : Thread nD τ).2.kind .vmem S512x384 .bf16 from (cM.slice (Rect.unit (s := S1024x768) oD0 S512x384.size iD0) (fun _ => rfl))).view.ref.isScScratch = false}
    {zD1 : (show Memref sig (Dev.tc nD1 : Thread nD τ).2.kind .vmem S512x384 .bf16 from (cM.slice (Rect.unit (s := S1024x768) oD1 S512x384.size iD1) (fun _ => rfl))).view.ref.isScScratch = false}
    {xD0 : (cM.slice (Rect.unit (s := S1024x768) oD0 S512x384.size iD0) (fun _ => rfl)).view.WordExact} {xD1 : (cM.slice (Rect.unit (s := S1024x768) oD1 S512x384.size iD1) (fun _ => rfl)).view.WordExact} {yD0 : (cM.slice (Rect.unit (s := S1024x768) oD0 S512x384.size iD0) (fun _ => rfl)).view.WordExact} {yD1 : (cM.slice (Rect.unit (s := S1024x768) oD1 S512x384.size iD1) (fun _ => rfl)).view.WordExact}
    {tD0 : DmaTarget.Typed .vmem (.dma (rcvS 0 3)) (.remote (Dev.tc nD0 : Thread nD τ) (cM.slice (Rect.unit (s := S1024x768) oD0 S512x384.size iD0) (fun _ => rfl)) (.dma (sndS 0 3)) zD0)}
    {tD1 : DmaTarget.Typed .vmem (.dma (rcvS 1 3)) (.remote (Dev.tc nD1 : Thread nD τ) (cM.slice (Rect.unit (s := S1024x768) oD1 S512x384.size iD1) (fun _ => rfl)) (.dma (sndS 1 3)) zD1)}
    {spD0 spD1 spD2 spD3 : Space} {shD0 shD1 shD2 shD3 : Shape} {eD0 eD1 eD2 eD3 : EltTy}
    {sD0 : Memref sig .tc spD0 shD0 eD0} {sD1 : Memref sig .tc spD1 shD1 eD1} {sD2 : Memref sig .tc spD2 shD2 eD2} {sD3 : Memref sig .tc spD3 shD3 eD3}
    {aD0 : sD0.view.WordExact} {aD1 : sD1.view.WordExact} {aD2 : sD2.view.WordExact} {aD3 : sD3.view.WordExact}
    {bD0 : (cM.slice (Rect.unit (s := S1024x768) oD0 S512x384.size iD0) (fun _ => rfl)).view.WordExact} {bD1 : (cM.slice (Rect.unit (s := S1024x768) oD0 S512x384.size iD0) (fun _ => rfl)).view.WordExact} {bD2 : (cM.slice (Rect.unit (s := S1024x768) oD1 S512x384.size iD1) (fun _ => rfl)).view.WordExact} {bD3 : (cM.slice (Rect.unit (s := S1024x768) oD1 S512x384.size iD1) (fun _ => rfl)).view.WordExact}
    {Q : α → sProp 𝕄} {kk : PUnit → Prog (TpuEff nD τ sig (Elt F) Λ₀ .tc) α} :
    iprop(allInv P K ∗ levs ∗ ow c (dExs r ++ D) ∗ exAll r c ∗ ((((c : Thread nD τ).loc cc0_scratch0) ↦[Finset.univ]{fullShare} P r c) : sProp 𝕄)
        ∗ handX r (pX c) ∗ handM r (pM c) ∗ reached ER (barC c) (r + 1))
      ⊢ iprop(((ow c D ∗ exDone r c ∗ ((((c : Thread nD τ).loc cc0_scratch0) ↦[Finset.univ]{fullShare} AF (P r)) : sProp 𝕄)
            ∗ ((∃ f, uP c 0 f) ∗ (∃ f, uP c 1 f)) ∗ ((∃ f, vP c 0 f) ∗ (∃ f, vP c 1 f))
            ∗ reached ER (barC (pX c)) (r + 1) ∗ reached ER (barC (pM c)) (r + 1))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (cM.slice (Rect.unit (s := S1024x768) oA0 S512x384.size iA0) (fun _ => rfl)) (.remote (Dev.tc nA0 : Thread nD τ) (u1M 0) (.dma (sndS 0 0)) zA0) (.dma (rcvS 0 0)) xA0 yA0 tA0) fun _ =>
              .op (.enqueueDma (cM.slice (Rect.unit (s := S1024x768) oA1 S512x384.size iA1) (fun _ => rfl)) (.remote (Dev.tc nA1 : Thread nD τ) (u1M 1) (.dma (sndS 1 0)) zA1) (.dma (rcvS 1 0)) xA1 yA1 tA1) fun _ =>
              .op (.waitDma2 (sndS 0 0) sA0 (cM.slice (Rect.unit (s := S1024x768) oA0 S512x384.size iA0) (fun _ => rfl)) aA0 bA0) fun _ => .op (.waitDma2 (rcvS 0 0) sA1 (u1M 0) aA1 bA1) fun _ =>
              .op (.waitDma2 (sndS 1 0) sA2 (cM.slice (Rect.unit (s := S1024x768) oA1 S512x384.size iA1) (fun _ => rfl)) aA2 bA2) fun _ => .op (.waitDma2 (rcvS 1 0) sA3 (u1M 1) aA3 bA3) fun _ =>
              (.op (.load cM (hR 0 c).toLoadRect lE0) fun v => .op (.load uM (uR 0).toLoadRect mE0) fun w =>
              .op (.load cM (hR 0 c).toLoadRect kE0) fun _ => .op (.store cM (hR 0 c) (payE0 v w) Finset.univ wE0 vE0) fun _ =>
              (.op (.load cM (hR 1 c).toLoadRect lE1) fun v => .op (.load uM (uR 1).toLoadRect mE1) fun w =>
              .op (.load cM (hR 1 c).toLoadRect kE1) fun _ => .op (.store cM (hR 1 c) (payE1 v w) Finset.univ wE1 vE1) fun _ =>
              (.op (.enqueueDma (cM.slice (Rect.unit (s := S1024x768) oB0 S256x384.size iB0) (fun _ => rfl)) (.remote (Dev.tc nB0 : Thread nD τ) (v1M 0) (.dma (sndS 0 1)) zB0) (.dma (rcvS 0 1)) xB0 yB0 tB0) fun _ =>
              .op (.enqueueDma (cM.slice (Rect.unit (s := S1024x768) oB1 S256x384.size iB1) (fun _ => rfl)) (.remote (Dev.tc nB1 : Thread nD τ) (v1M 1) (.dma (sndS 1 1)) zB1) (.dma (rcvS 1 1)) xB1 yB1 tB1) fun _ =>
              .op (.waitDma2 (sndS 0 1) sB0 (cM.slice (Rect.unit (s := S1024x768) oB0 S256x384.size iB0) (fun _ => rfl)) aB0 bB0) fun _ => .op (.waitDma2 (rcvS 0 1) sB1 (v1M 0) aB1 bB1) fun _ =>
              .op (.waitDma2 (sndS 1 1) sB2 (cM.slice (Rect.unit (s := S1024x768) oB1 S256x384.size iB1) (fun _ => rfl)) aB2 bB2) fun _ => .op (.waitDma2 (rcvS 1 1) sB3 (v1M 1) aB3 bB3) fun _ =>
              (.op (.load cM (qR 0 c).toLoadRect lG0) fun v => .op (.load vM (vR 0).toLoadRect mG0) fun w =>
              .op (.load cM (qR 0 c).toLoadRect kG0) fun _ => .op (.store cM (qR 0 c) (payG0 v w) Finset.univ wG0 vG0) fun _ =>
              (.op (.load cM (qR 1 c).toLoadRect lG1) fun v => .op (.load vM (vR 1).toLoadRect mG1) fun w =>
              .op (.load cM (qR 1 c).toLoadRect kG1) fun _ => .op (.store cM (qR 1 c) (payG1 v w) Finset.univ wG1 vG1) fun _ =>
              (.op (.enqueueDma (cM.slice (Rect.unit (s := S1024x768) oC0 S256x384.size iC0) (fun _ => rfl)) (.remote (Dev.tc nC0 : Thread nD τ) (cM.slice (Rect.unit (s := S1024x768) oC0 S256x384.size iC0) (fun _ => rfl)) (.dma (sndS 0 2)) zC0) (.dma (rcvS 0 2)) xC0 yC0 tC0) fun _ =>
              .op (.enqueueDma (cM.slice (Rect.unit (s := S1024x768) oC1 S256x384.size iC1) (fun _ => rfl)) (.remote (Dev.tc nC1 : Thread nD τ) (cM.slice (Rect.unit (s := S1024x768) oC1 S256x384.size iC1) (fun _ => rfl)) (.dma (sndS 1 2)) zC1) (.dma (rcvS 1 2)) xC1 yC1 tC1) fun _ =>
              .op (.waitDma2 (sndS 0 2) sC0 (cM.slice (Rect.unit (s := S1024x768) oC0 S256x384.size iC0) (fun _ => rfl)) aC0 bC0) fun _ => .op (.waitDma2 (rcvS 0 2) sC1 (cM.slice (Rect.unit (s := S1024x768) oC0 S256x384.size iC0) (fun _ => rfl)) aC1 bC1) fun _ =>
              .op (.waitDma2 (sndS 1 2) sC2 (cM.slice (Rect.unit (s := S1024x768) oC1 S256x384.size iC1) (fun _ => rfl)) aC2 bC2) fun _ => .op (.waitDma2 (rcvS 1 2) sC3 (cM.slice (Rect.unit (s := S1024x768) oC1 S256x384.size iC1) (fun _ => rfl)) aC3 bC3) fun _ =>
              (.op (.enqueueDma (cM.slice (Rect.unit (s := S1024x768) oD0 S512x384.size iD0) (fun _ => rfl)) (.remote (Dev.tc nD0 : Thread nD τ) (cM.slice (Rect.unit (s := S1024x768) oD0 S512x384.size iD0) (fun _ => rfl)) (.dma (sndS 0 3)) zD0) (.dma (rcvS 0 3)) xD0 yD0 tD0) fun _ =>
              .op (.enqueueDma (cM.slice (Rect.unit (s := S1024x768) oD1 S512x384.size iD1) (fun _ => rfl)) (.remote (Dev.tc nD1 : Thread nD τ) (cM.slice (Rect.unit (s := S1024x768) oD1 S512x384.size iD1) (fun _ => rfl)) (.dma (sndS 1 3)) zD1) (.dma (rcvS 1 3)) xD1 yD1 tD1) fun _ =>
              .op (.waitDma2 (sndS 0 3) sD0 (cM.slice (Rect.unit (s := S1024x768) oD0 S512x384.size iD0) (fun _ => rfl)) aD0 bD0) fun _ => .op (.waitDma2 (rcvS 0 3) sD1 (cM.slice (Rect.unit (s := S1024x768) oD0 S512x384.size iD0) (fun _ => rfl)) aD1 bD1) fun _ =>
              .op (.waitDma2 (sndS 1 3) sD2 (cM.slice (Rect.unit (s := S1024x768) oD1 S512x384.size iD1) (fun _ => rfl)) aD2 bD2) fun _ => .op (.waitDma2 (rcvS 1 3) sD3 (cM.slice (Rect.unit (s := S1024x768) oD1 S512x384.size iD1) (fun _ => rfl)) aD3 bD3) kk)))))))) Q) := by
  unfold exAll handX handM dExs
  obtain ⟨d0, d1, d2, d3⟩ := dues_after r hr D hD
  iintro ⟨#HI, #Hlev, HO, ⟨⟨Hi00, Hi01⟩, ⟨Hi10, Hi11⟩, ⟨Hi20, Hi21⟩, Hi30, Hi31⟩, HC, ⟨HuX, HvX, #X0, #X1, #X2, #X3⟩, ⟨HuM, HvM, #M0, #M1, #M2, #M3⟩, #HrB⟩ Hk
  simp only [List.append_assoc]
  ihave HC := (c_split c (P r c)).1 $$ HC
  icases HC with ⟨⟨Hh0, Hg0⟩, Hh1, Hg1⟩
  iapply (wp_ex0 P K c r hr (dEx r 1 ++ (dEx r 2 ++ (dEx r 3 ++ D))) d0 hnA0 hnA1 hoA0 hoA1) $$ [HO Hi00 Hi01 Hg0 Hg1 HuX HuM]
  · isplitr; · iexact HI
    isplitr; · iexact Hlev
    isplitl [HO]; · iexact HO
    isplitl [Hi00]; · iexact Hi00
    isplitl [Hi01]; · iexact Hi01
    isplitl [Hg0]; · iexact Hg0
    isplitl [Hg1]; · iexact Hg1
    isplitl [HuX]; · iexact HuX
    isplitl [HuM]; · iexact HuM
    isplitr; · iexact X0
    isplitr; · iexact M0
    iexact HrB
  iintro ⟨HO, Ho00, Ho01, Hz0, Hz1⟩
  unfold rp0
  icases Hz0 with ⟨%f0, %hf0, Hu0, Hg0, #B0⟩
  icases Hz1 with ⟨%f1, %hf1, Hu1, Hg1, #B1⟩
  iapply (wp_acc0 P c 0 r payE0 hpayE0 f0 hf0) $$ [Hh0 Hu0]
  · isplitl [Hh0] <;> iassumption
  iintro ⟨Hh0, Hu0⟩
  iapply (wp_acc0 P c 1 r payE1 hpayE1 f1 hf1) $$ [Hh1 Hu1]
  · isplitl [Hh1] <;> iassumption
  iintro ⟨Hh1, Hu1⟩
  ihave Hh0 := (h_split c 0 c (A1 (P r) c)).1 $$ Hh0
  icases Hh0 with ⟨Hq0, Hr0⟩
  ihave Hh1 := (h_split c 1 c (A1 (P r) c)).1 $$ Hh1
  icases Hh1 with ⟨Hq1, Hr1⟩
  iapply (wp_ex1 P K c r hr (dEx r 2 ++ (dEx r 3 ++ D)) d1 hnB0 hnB1 hoB0 hoB1) $$ [HO Hi10 Hi11 Hr0 Hr1 HvM HvX]
  · isplitr; · iexact HI
    isplitr; · iexact Hlev
    isplitl [HO]; · iexact HO
    isplitl [Hi10]; · iexact Hi10
    isplitl [Hi11]; · iexact Hi11
    isplitl [Hr0]; · iexact Hr0
    isplitl [Hr1]; · iexact Hr1
    isplitl [HvM]; · iexact HvM
    isplitl [HvX]; · iexact HvX
    isplitr; · iexact M1
    iexact X1
  iintro ⟨HO, Ho10, Ho11, Hz0, Hz1⟩
  unfold rp1
  icases Hz0 with ⟨%j0, %hj0, Hv0, Hr0⟩
  icases Hz1 with ⟨%j1, %hj1, Hv1, Hr1⟩
  iapply (wp_acc1 P c 0 r payG0 hpayG0 j0 hj0) $$ [Hq0 Hv0]
  · isplitl [Hq0] <;> iassumption
  iintro ⟨Hq0, Hv0⟩
  iapply (wp_acc1 P c 1 r payG1 hpayG1 j1 hj1) $$ [Hq1 Hv1]
  · isplitl [Hq1] <;> iassumption
  iintro ⟨Hq1, Hv1⟩
  iapply (wp_ex2 P K c r hr (dEx r 3 ++ D) d2 hnC0 hnC1 hoC0 hoC1) $$ [HO Hi20 Hi21 Hq0 Hq1 Hr0 Hr1]
  · isplitr; · iexact HI
    isplitr; · iexact Hlev
    isplitl [HO]; · iexact HO
    isplitl [Hi20]; · iexact Hi20
    isplitl [Hi21]; · iexact Hi21
    isplitl [Hq0]; · iexact Hq0
    isplitl [Hq1]; · iexact Hq1
    isplitl [Hr0]; · iexists _; iexact Hr0
    isplitl [Hr1]; · iexists _; iexact Hr1
    isplitr; · iexact M2
    iexact X2
  iintro ⟨HO, Ho20, Ho21, Hq0, Hr0, Hq1, Hr1⟩
  unfold rp2
  ihave Hh0 := (h_split c 0 c (AF (P r))).2 $$ [Hq0 Hr0]
  · isplitl [Hq0] <;> iassumption
  ihave Hh1 := (h_split c 1 c (AF (P r))).2 $$ [Hq1 Hr1]
  · isplitl [Hq1] <;> iassumption
  iapply (wp_ex3 P K c r hr D d3 hnD0 hnD1 hoD0 hoD1) $$ [HO Hi30 Hi31 Hh0 Hh1 Hg0 Hg1]
  · isplitr; · iexact HI
    isplitr; · iexact Hlev
    isplitl [HO]; · iexact HO
    isplitl [Hi30]; · iexact Hi30
    isplitl [Hi31]; · iexact Hi31
    isplitl [Hh0]; · iexact Hh0
    isplitl [Hh1]; · iexact Hh1
    isplitl [Hg0]; · iexists _; iexact Hg0
    isplitl [Hg1]; · iexists _; iexact Hg1
    isplitr; · iexact X3
    iexact M3
  iintro ⟨HO, Ho30, Ho31, Hh0, Hg0, Hh1, Hg1⟩
  unfold rp3 exDone
  iapply Hk
  isplitl [HO]; · iexact HO
  isplitl [Ho00 Ho01 Ho10 Ho11 Ho20 Ho21 Ho30 Ho31]
  · isplitl [Ho00 Ho01]; · isplitl [Ho00] <;> iassumption
    isplitl [Ho10 Ho11]; · isplitl [Ho10] <;> iassumption
    isplitl [Ho20 Ho21]; · isplitl [Ho20] <;> iassumption
    isplitl [Ho30] <;> iassumption
  isplitl [Hh0 Hg0 Hh1 Hg1]
  · iapply (c_split c (AF (P r))).2
    isplitl [Hh0 Hg0]; · isplitl [Hh0] <;> iassumption
    isplitl [Hh1] <;> iassumption
  isplitl [Hu0 Hu1]
  · isplitl [Hu0]; · iexists _; iexact Hu0
    iexists _; iexact Hu1
  isplitl [Hv0 Hv1]
  · isplitl [Hv0]; · iexists _; iexact Hv0
    iexists _; iexact Hv1
  isplitr; · iexact B0
  iexact B1

end Cert.Butterfly

end
-- ==== Proof.Values.lean ====
/-
# 01_k — the values a device computes

The partial sums a device puts into its communication buffer for the two all-reduces, and the block it writes at the end,
as functions of what its staging buffers hold.
-/
module

public import proofs.«01_k».proof.Proof.AllReduce
public import Idealize.ShloMosaic.Lib.Pipeline.Value
public import Idealize.ShloMosaic.Lib.Tactic

@[expose] public section

set_option backward.proofsInPublic true

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

/-- What a device's nine input staging buffers hold. -/
structure Ins (F : FTy → Type) where
  x0 : Vec F S2x512x768 .bf16
  x1 : Vec F S768x384 .bf16
  x2 : Vec F S768x384 .bf16
  x3 : Vec F S768x384 .bf16
  x4 : Vec F S384x768 .bf16
  x5 : Vec F S2x128 .bf16
  x6 : Vec F S128x4608 .bf16
  x7 : Vec F S768x768 .bf16
  x8 : Vec F S768x768 .bf16

/-- The first gate. -/
def gate1 (I : Ins F) : FVec F S2x1x768 .f32 := k0_pay5 I.x5 I.x6
/-- The second gate. -/
def gate2 (I : Ins F) : FVec F S2x1x768 .f32 := k0_pay8 (k0_pay2 I.x5 I.x6)
/-- The normalized activations. -/
def hid (I : Ins F) : FVec F S1024x768 .bf16 := k0_pay10 (k0_pay3 I.x5 I.x6) (k0_pay4 I.x5 I.x6) I.x0
/-- The queries of the device's heads. -/
def qry (I : Ins F) : FVec F S1024x384 .f32 := k0_pay11 (k0_pay3 I.x5 I.x6) (k0_pay4 I.x5 I.x6) I.x0 I.x1
/-- The keys of the device's heads. -/
def key (I : Ins F) : FVec F S1024x384 .f32 := k0_pay12 (k0_pay3 I.x5 I.x6) (k0_pay4 I.x5 I.x6) I.x0 I.x2
/-- The values of the device's heads. -/
def val (I : Ins F) : FVec F S1024x384 .f32 := k0_pay13 (hid I) I.x3
/-- The first batch's attention outputs. -/
def attn0 (I : Ins F) : FVec F S512x384 .f32 :=
  k0_pay19 (qry I) (key I) (val I) (k0_pay14 (hid I) (qry I) (key I) I.x3) (k0_pay15 (hid I) (qry I) (key I) I.x3) (k0_pay16 (qry I)) (k0_pay17 (key I)) (k0_pay18 (hid I) I.x3)
/-- The device's part of the attention block. -/
def part0 (I : Ins F) : FVec F S1024x768 .bf16 :=
  k0_pay26 (qry I) (key I) (val I) (attn0 I) (k0_pay23 (k0_pay20 (val I)) (k0_pay21 (qry I) (key I)) (k0_pay22 (qry I) (key I)))
    (k0_pay24 (qry I) (key I) (val I)) (k0_pay25 (qry I) (key I) (val I)) I.x4
/-- The activations after the attention block, from its finished sum. -/
def mid (I : Ins F) (s : Vec F S1024x768 .bf16) : FVec F S2x512x768 .f32 := k0_pay32 (gate1 I) (k0_pay9 I.x0) s
/-- The device's part of the MLP block. -/
def part1 (I : Ins F) (s : Vec F S1024x768 .bf16) : FVec F S1024x768 .bf16 :=
  k0_pay34 (k0_pay33 (gate1 I) (k0_pay6 I.x5 I.x6) (k0_pay7 I.x5 I.x6) (k0_pay9 I.x0) s I.x7) I.x8

/-- The partial sums of the two all-reduces. -/
def parts (I : Dev nD → Ins F) : ℕ → Dev nD → CB F
  | 0 => fun c => part0 (I c)
  | _ + 1 => fun c => part1 (I c) (AF fun d => part0 (I d))
/-- What a device writes. -/
def result (I : Dev nD → Ins F) (c : Dev nD) : FVec F S2x512x768 .f32 :=
  k0_pay1 (gate2 (I c)) (mid (I c) (AF (parts I 0))) (AF (parts I 1))

/-! ## The additions -/

/-- The addition as stored. -/
theorem pay27_eq (v w : Vec F S512x384 .bf16) (i : S512x384.Idx) : k0_pay27 v w i = acc (v i) (w i) := by
  unfold k0_pay27; rw [shapeCast_self]; rfl
/-- The addition as stored. -/
theorem pay28_eq (v w : Vec F S512x384 .bf16) (i : S512x384.Idx) : k0_pay28 v w i = acc (v i) (w i) := by
  unfold k0_pay28; rw [shapeCast_self]; rfl
/-- The addition as stored. -/
theorem pay29_eq (v w : Vec F S256x384 .bf16) (i : S256x384.Idx) : k0_pay29 v w i = acc (v i) (w i) := by
  unfold k0_pay29; rw [shapeCast_self]; rfl
/-- The addition as stored. -/
theorem pay35_eq (v w : Vec F S512x384 .bf16) (i : S512x384.Idx) : k0_pay35 v w i = acc (v i) (w i) := by
  unfold k0_pay35; rw [shapeCast_self]; rfl
/-- The addition as stored. -/
theorem pay36_eq (v w : Vec F S512x384 .bf16) (i : S512x384.Idx) : k0_pay36 v w i = acc (v i) (w i) := by
  unfold k0_pay36; rw [shapeCast_self]; rfl
/-- The addition as stored. -/
theorem pay37_eq (v w : Vec F S256x384 .bf16) (i : S256x384.Idx) : k0_pay37 v w i = acc (v i) (w i) := by
  unfold k0_pay37; rw [shapeCast_self]; rfl
/-- The addition as stored. -/
theorem pay38_eq (v w : Vec F S256x384 .bf16) (i : S256x384.Idx) : k0_pay38 v w i = acc (v i) (w i) := by
  unfold k0_pay38; rw [shapeCast_self]; rfl
/-- The addition as stored. -/
theorem pay31_eq (v w : Vec F S256x384 .bf16) (i : S256x384.Idx) : k0_pay31 (k0_pay30 v) w i = acc (v i) (w i) := by
  unfold k0_pay31 k0_pay30; rw [shapeCast_self]; rfl

end Cert.Butterfly

end
-- ==== Proof.Body.lean ====
/-
# 01_k — the run of the kernel's body on one device

One symbolic device runs the whole body: the barrier, the projections and the attention of its heads, the first all-reduce,
the MLP, the barrier, the second all-reduce, the result.
-/
module

public import proofs.«01_k».proof.Proof.Values
public import Idealize.ShloMosaic.Lib.Tactic

@[expose] public section

set_option backward.proofsInPublic true

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (P : ℕ → Dev nD → CB F) (K : Dev nD × CK → ℕ)

/-! ## What a device starts with -/

/-- The tokens and the credit of one copy. -/
def exTok (r : ℕ) (k : Fin 4) (s : Fin 2) (c : Dev nD) : sProp 𝕄 :=
  iprop(dutyTok ER (sndC c s k) r false ∗ dutyTok ER (rcvC (peer s k c) s k) r false ∗ cred (tallyAt (rcvC c s k) (10 * r + 2 + k.val) (NN k)))
/-- The tokens and the credits of a round's copies. -/
def exToks (r : ℕ) (c : Dev nD) : sProp 𝕄 :=
  iprop((exTok r 0 0 c ∗ exTok r 0 1 c) ∗ (exTok r 1 0 c ∗ exTok r 1 1 c) ∗ (exTok r 2 0 c ∗ exTok r 2 1 c) ∗ (exTok r 3 0 c ∗ exTok r 3 1 c))
/-- The tokens and the credit of a round's barrier. -/
def barToks (r : ℕ) (c : Dev nD) : sProp 𝕄 :=
  iprop(dutyTok ER (barC (pX c)) r true ∗ dutyTok ER (barC (pM c)) r false ∗ cred (tallyAt (barC c) (10 * r + 1) 2))
/-- Where a copy's cells stand. -/
def exPos (r : ℕ) (k : Fin 4) (s : Fin 2) (c : Dev nD) : sProp 𝕄 :=
  iprop(atPos ER (sndC c s k) r ∅ 0 ∗ atPos ER (rcvC c s k) r ∅ 0 ∗ reached ER (sndC c s k) r ∗ reached ER (rcvC c s k) r)
/-- Where the cells of all the copies stand. -/
def exPoss (r : ℕ) (c : Dev nD) : sProp 𝕄 :=
  iprop((exPos r 0 0 c ∗ exPos r 0 1 c) ∗ (exPos r 1 0 c ∗ exPos r 1 1 c) ∗ (exPos r 2 0 c ∗ exPos r 2 1 c) ∗ (exPos r 3 0 c ∗ exPos r 3 1 c))
/-- The receive cells have reached round `r`. -/
def rcvAt (r : ℕ) (c : Dev nD) : sProp 𝕄 :=
  iprop((reached ER (rcvC c 0 0) r ∗ reached ER (rcvC c 1 0) r) ∗ (reached ER (rcvC c 0 1) r ∗ reached ER (rcvC c 1 1) r)
    ∗ (reached ER (rcvC c 0 2) r ∗ reached ER (rcvC c 1 2) r) ∗ (reached ER (rcvC c 0 3) r ∗ reached ER (rcvC c 1 3) r))

omit [FloatOps F] [Named F] in
/-- One copy: positions and tokens are what the copy needs. -/
theorem ex_join (r : ℕ) (k : Fin 4) (s : Fin 2) (c : Dev nD) : (iprop(exPos r k s c ∗ exTok r k s c) : sProp 𝕄) ⊢ iprop(exIn r k s c ∗ reached ER (rcvC c s k) r) := by
  unfold exPos exTok exIn
  iintro ⟨⟨H1, H2, #H3, #H4⟩, H5, H6, H7⟩
  isplitl
  · isplitl [H1]; · iexact H1
    isplitl [H2]; · iexact H2
    isplitr; · iexact H3
    isplitl [H5]; · iexact H5
    isplitl [H6]; · iexact H6
    iexact H7
  iexact H4

omit [FloatOps F] [Named F] in
/-- All the copies of a round. -/
theorem exs_join (r : ℕ) (c : Dev nD) : (iprop(exPoss r c ∗ exToks r c) : sProp 𝕄) ⊢ iprop(exAll r c ∗ rcvAt r c) := by
  unfold exPoss exToks exAll rcvAt
  iintro ⟨⟨⟨P00, P01⟩, ⟨P10, P11⟩, ⟨P20, P21⟩, P30, P31⟩, ⟨⟨T00, T01⟩, ⟨T10, T11⟩, ⟨T20, T21⟩, T30, T31⟩⟩
  ihave H00 := (ex_join r 0 0 c) $$ [P00 T00]
  · isplitl [P00] <;> iassumption
  icases H00 with ⟨H00, R00⟩
  ihave H01 := (ex_join r 0 1 c) $$ [P01 T01]
  · isplitl [P01] <;> iassumption
  icases H01 with ⟨H01, R01⟩
  ihave H10 := (ex_join r 1 0 c) $$ [P10 T10]
  · isplitl [P10] <;> iassumption
  icases H10 with ⟨H10, R10⟩
  ihave H11 := (ex_join r 1 1 c) $$ [P11 T11]
  · isplitl [P11] <;> iassumption
  icases H11 with ⟨H11, R11⟩
  ihave H20 := (ex_join r 2 0 c) $$ [P20 T20]
  · isplitl [P20] <;> iassumption
  icases H20 with ⟨H20, R20⟩
  ihave H21 := (ex_join r 2 1 c) $$ [P21 T21]
  · isplitl [P21] <;> iassumption
  icases H21 with ⟨H21, R21⟩
  ihave H30 := (ex_join r 3 0 c) $$ [P30 T30]
  · isplitl [P30] <;> iassumption
  icases H30 with ⟨H30, R30⟩
  ihave H31 := (ex_join r 3 1 c) $$ [P31 T31]
  · isplitl [P31] <;> iassumption
  icases H31 with ⟨H31, R31⟩
  isplitl [H00 H01 H10 H11 H20 H21 H30 H31]
  · isplitl [H00 H01]; · isplitl [H00] <;> iassumption
    isplitl [H10 H11]; · isplitl [H10] <;> iassumption
    isplitl [H20 H21]; · isplitl [H20] <;> iassumption
    isplitl [H30] <;> iassumption
  isplitl [R00 R01]; · isplitl [R00] <;> iassumption
  isplitl [R10 R11]; · isplitl [R10] <;> iassumption
  isplitl [R20 R21]; · isplitl [R20] <;> iassumption
  isplitl [R30] <;> iassumption

/-- The end of a round is the start of the next. -/
theorem exs_next (r : ℕ) (c : Dev nD) : (exDone r c : sProp 𝕄) ⊢ exPoss (r + 1) c := BI.Entails.refl _

omit [FloatOps F] [Named F] in
/-- What the two partners are handed at a barrier. -/
theorem hands (r : ℕ) (c : Dev nD) : (iprop(((∃ f, uP c 0 f) ∗ (∃ f, uP c 1 f)) ∗ ((∃ f, vP c 0 f) ∗ (∃ f, vP c 1 f)) ∗ rcvAt r c) : sProp 𝕄) ⊢ iprop(handX r c ∗ handM r c) := by
  unfold rcvAt handX handM
  iintro ⟨⟨U0, U1⟩, ⟨V0, V1⟩, ⟨#R00, #R01⟩, ⟨#R10, #R11⟩, ⟨#R20, #R21⟩, #R30, #R31⟩
  isplitl [U0 V1]
  · isplitl [U0]; · iexact U0
    isplitl [V1]; · iexact V1
    isplitr; · iexact R00
    isplitr; · iexact R11
    isplitr; · iexact R21
    iexact R30
  · isplitl [U1]; · iexact U1
    isplitl [V0]; · iexact V0
    isplitr; · iexact R01
    isplitr; · iexact R10
    isplitr; · iexact R20
    iexact R31

/-! ## The cells close -/

/-- The counters of all the device's DMA cells are zero. -/
def exZero (c : Dev nD) : sProp 𝕄 :=
  iprop((semVal (sndC c 0 0) 0 ∗ semVal (sndC c 0 1) 0 ∗ semVal (sndC c 0 2) 0 ∗ semVal (sndC c 0 3) 0 ∗ semVal (sndC c 1 0) 0 ∗ semVal (sndC c 1 1) 0 ∗ semVal (sndC c 1 2) 0 ∗ semVal (sndC c 1 3) 0)
    ∗ (semVal (rcvC c 0 0) 0 ∗ semVal (rcvC c 0 1) 0 ∗ semVal (rcvC c 0 2) 0 ∗ semVal (rcvC c 0 3) 0 ∗ semVal (rcvC c 1 0) 0 ∗ semVal (rcvC c 1 1) 0 ∗ semVal (rcvC c 1 2) 0 ∗ semVal (rcvC c 1 3) 0))

/-- One cell past its two rounds. -/
theorem close_one (c : Dev nD) (k : CK) : iprop(allInv P K ∗ atPos ER (cell c k) 2 ∅ 0) ⊢ |={Set.univ}=> iprop(semVal (cell c k) 0) := by
  iintro ⟨#HI, H⟩
  ihave #Hi := (allInv_elim P K c k) $$ HI
  imod (Rounds.cell_close ER (Rd P) (Set.mem_univ (K (c, k))) (fun h => h) (R := 2) (duties_later P (cell c k))) $$ [H] with Hz
  · isplitr; · iexact Hi
    iexact H
  imodintro
  iexact Hz

/-- A copy's two cells past their two rounds. -/
theorem close_pair (c : Dev nD) (k : Fin 4) (s : Fin 2) : iprop(allInv P K ∗ exPos 2 k s c) ⊢ |={Set.univ}=> iprop(semVal (sndC c s k) 0 ∗ semVal (rcvC c s k) 0) := by
  unfold exPos
  iintro ⟨#HI, H1, H2, -, -⟩
  imod (close_one P K c (some (false, s, k))) $$ [H1] with Z1
  · isplitr; · iexact HI
    iexact H1
  imod (close_one P K c (some (true, s, k))) $$ [H2] with Z2
  · isplitr; · iexact HI
    iexact H2
  imodintro
  isplitl [Z1] <;> iassumption

/-- All the DMA cells. -/
theorem close_all (c : Dev nD) : iprop(allInv P K ∗ exPoss 2 c) ⊢ |={Set.univ}=> iprop(exZero c) := by
  unfold exPoss exZero
  iintro ⟨#HI, ⟨⟨P00, P01⟩, ⟨P10, P11⟩, ⟨P20, P21⟩, P30, P31⟩⟩
  imod (close_pair P K c 0 0) $$ [P00] with ⟨S00, R00⟩
  · isplitr; · iexact HI
    iexact P00
  imod (close_pair P K c 0 1) $$ [P01] with ⟨S01, R01⟩
  · isplitr; · iexact HI
    iexact P01
  imod (close_pair P K c 1 0) $$ [P10] with ⟨S10, R10⟩
  · isplitr; · iexact HI
    iexact P10
  imod (close_pair P K c 1 1) $$ [P11] with ⟨S11, R11⟩
  · isplitr; · iexact HI
    iexact P11
  imod (close_pair P K c 2 0) $$ [P20] with ⟨S20, R20⟩
  · isplitr; · iexact HI
    iexact P20
  imod (close_pair P K c 2 1) $$ [P21] with ⟨S21, R21⟩
  · isplitr; · iexact HI
    iexact P21
  imod (close_pair P K c 3 0) $$ [P30] with ⟨S30, R30⟩
  · isplitr; · iexact HI
    iexact P30
  imod (close_pair P K c 3 1) $$ [P31] with ⟨S31, R31⟩
  · isplitr; · iexact HI
    iexact P31
  imodintro
  isplitl [S00 S10 S20 S30 S01 S11 S21 S31]
  · isplitl [S00]; · iexact S00
    isplitl [S10]; · iexact S10
    isplitl [S20]; · iexact S20
    isplitl [S30]; · iexact S30
    isplitl [S01]; · iexact S01
    isplitl [S11]; · iexact S11
    isplitl [S21]; · iexact S21
    iexact S31
  isplitl [R00]; · iexact R00
  isplitl [R10]; · iexact R10
  isplitl [R20]; · iexact R20
  isplitl [R30]; · iexact R30
  isplitl [R01]; · iexact R01
  isplitl [R11]; · iexact R11
  isplitl [R21]; · iexact R21
  iexact R31

/-! ## Whole loads and stores -/

/-- The origin of a matrix. -/
theorem z2 : (![0, 0] : Fin 2 → Nat) = fun _ => 0 := funext fun a => by fin_cases a <;> rfl
/-- The origin of a rank-three array. -/
theorem z3 : (![0, 0, 0] : Fin 3 → Nat) = fun _ => 0 := funext fun a => by fin_cases a <;> rfl
omit [FloatOps F] [Named F] in
/-- A load of the whole of staging buffer 0. -/
theorem read0 {inb : ∀ a, (![0, 0, 0] : Fin 3 → Nat) a + S2x512x768.size a ≤ S2x512x768.size a} (f : (cc0_stg0_0 : Ref sig .tc).ty.Contents (Elt F)) :
    (Memref.whole cc0_stg0_0 : Memref sig .tc .vmem S2x512x768 .bf16).view.readAt (Elt F) (Rect.unit (s := S2x512x768) ![0, 0, 0] S2x512x768.size inb).toLoadRect f = f :=
  Memref.readAt_unit_zero (Elt F) cc0_stg0_0 z3 _ f
omit [FloatOps F] [Named F] in
/-- A load of the whole of staging buffer 1. -/
theorem read1 {inb : ∀ a, (![0, 0] : Fin 2 → Nat) a + S768x384.size a ≤ S768x384.size a} (f : (cc0_stg1_0 : Ref sig .tc).ty.Contents (Elt F)) :
    (Memref.whole cc0_stg1_0 : Memref sig .tc .vmem S768x384 .bf16).view.readAt (Elt F) (Rect.unit (s := S768x384) ![0, 0] S768x384.size inb).toLoadRect f = f :=
  Memref.readAt_unit_zero (Elt F) cc0_stg1_0 z2 _ f
omit [FloatOps F] [Named F] in
/-- A load of the whole of staging buffer 2. -/
theorem read2 {inb : ∀ a, (![0, 0] : Fin 2 → Nat) a + S768x384.size a ≤ S768x384.size a} (f : (cc0_stg2_0 : Ref sig .tc).ty.Contents (Elt F)) :
    (Memref.whole cc0_stg2_0 : Memref sig .tc .vmem S768x384 .bf16).view.readAt (Elt F) (Rect.unit (s := S768x384) ![0, 0] S768x384.size inb).toLoadRect f = f :=
  Memref.readAt_unit_zero (Elt F) cc0_stg2_0 z2 _ f
omit [FloatOps F] [Named F] in
/-- A load of the whole of staging buffer 3. -/
theorem read3 {inb : ∀ a, (![0, 0] : Fin 2 → Nat) a + S768x384.size a ≤ S768x384.size a} (f : (cc0_stg3_0 : Ref sig .tc).ty.Contents (Elt F)) :
    (Memref.whole cc0_stg3_0 : Memref sig .tc .vmem S768x384 .bf16).view.readAt (Elt F) (Rect.unit (s := S768x384) ![0, 0] S768x384.size inb).toLoadRect f = f :=
  Memref.readAt_unit_zero (Elt F) cc0_stg3_0 z2 _ f
omit [FloatOps F] [Named F] in
/-- A load of the whole of staging buffer 4. -/
theorem read4 {inb : ∀ a, (![0, 0] : Fin 2 → Nat) a + S384x768.size a ≤ S384x768.size a} (f : (cc0_stg4_0 : Ref sig .tc).ty.Contents (Elt F)) :
    (Memref.whole cc0_stg4_0 : Memref sig .tc .vmem S384x768 .bf16).view.readAt (Elt F) (Rect.unit (s := S384x768) ![0, 0] S384x768.size inb).toLoadRect f = f :=
  Memref.readAt_unit_zero (Elt F) cc0_stg4_0 z2 _ f
omit [FloatOps F] [Named F] in
/-- A load of the whole of staging buffer 5. -/
theorem read5 {inb : ∀ a, (![0, 0] : Fin 2 → Nat) a + S2x128.size a ≤ S2x128.size a} (f : (cc0_stg5_0 : Ref sig .tc).ty.Contents (Elt F)) :
    (Memref.whole cc0_stg5_0 : Memref sig .tc .vmem S2x128 .bf16).view.readAt (Elt F) (Rect.unit (s := S2x128) ![0, 0] S2x128.size inb).toLoadRect f = f :=
  Memref.readAt_unit_zero (Elt F) cc0_stg5_0 z2 _ f
omit [FloatOps F] [Named F] in
/-- A load of the whole of staging buffer 6. -/
theorem read6 {inb : ∀ a, (![0, 0] : Fin 2 → Nat) a + S128x4608.size a ≤ S128x4608.size a} (f : (cc0_stg6_0 : Ref sig .tc).ty.Contents (Elt F)) :
    (Memref.whole cc0_stg6_0 : Memref sig .tc .vmem S128x4608 .bf16).view.readAt (Elt F) (Rect.unit (s := S128x4608) ![0, 0] S128x4608.size inb).toLoadRect f = f :=
  Memref.readAt_unit_zero (Elt F) cc0_stg6_0 z2 _ f
omit [FloatOps F] [Named F] in
/-- A load of the whole of staging buffer 7. -/
theorem read7 {inb : ∀ a, (![0, 0] : Fin 2 → Nat) a + S768x768.size a ≤ S768x768.size a} (f : (cc0_stg7_0 : Ref sig .tc).ty.Contents (Elt F)) :
    (Memref.whole cc0_stg7_0 : Memref sig .tc .vmem S768x768 .bf16).view.readAt (Elt F) (Rect.unit (s := S768x768) ![0, 0] S768x768.size inb).toLoadRect f = f :=
  Memref.readAt_unit_zero (Elt F) cc0_stg7_0 z2 _ f
omit [FloatOps F] [Named F] in
/-- A load of the whole of staging buffer 8. -/
theorem read8 {inb : ∀ a, (![0, 0] : Fin 2 → Nat) a + S768x768.size a ≤ S768x768.size a} (f : (cc0_stg8_0 : Ref sig .tc).ty.Contents (Elt F)) :
    (Memref.whole cc0_stg8_0 : Memref sig .tc .vmem S768x768 .bf16).view.readAt (Elt F) (Rect.unit (s := S768x768) ![0, 0] S768x768.size inb).toLoadRect f = f :=
  Memref.readAt_unit_zero (Elt F) cc0_stg8_0 z2 _ f
omit [FloatOps F] [Named F] in
/-- A load of the whole communication buffer. -/
theorem readC {inb : ∀ a, (![0, 0] : Fin 2 → Nat) a + S1024x768.size a ≤ S1024x768.size a} (f : CB F) :
    (cM : Memref sig .tc .vmem S1024x768 .bf16).view.readAt (Elt F) (Rect.unit (s := S1024x768) ![0, 0] S1024x768.size inb).toLoadRect f = f :=
  Memref.readAt_unit_zero (Elt F) cc0_scratch0 z2 _ f
omit [FloatOps F] [Named F] in
/-- A store of the whole communication buffer. -/
theorem writeC {inb : ∀ a, (![0, 0] : Fin 2 → Nat) a + S1024x768.size a ≤ S1024x768.size a} (f w : CB F) :
    ((cM : Memref sig .tc .vmem S1024x768 .bf16).access (Rect.unit (s := S1024x768) ![0, 0] S1024x768.size inb) : View sig .tc _ _ _).write (Elt F) f w Finset.univ = w :=
  Memref.write_access_unit_zero_univ (Elt F) cc0_scratch0 z2 _ f w
omit [FloatOps F] [Named F] in
/-- A store of the whole result buffer. -/
theorem writeO {inb : ∀ a, (![0, 0, 0] : Fin 3 → Nat) a + S2x512x768.size a ≤ S2x512x768.size a} (f w : (cc0_stg9_0 : Ref sig .tc).ty.Contents (Elt F)) :
    ((Memref.whole cc0_stg9_0 : Memref sig .tc .vmem S2x512x768 .f32).access (Rect.unit (s := S2x512x768) ![0, 0, 0] S2x512x768.size inb) : View sig .tc _ _ _).write (Elt F) f w Finset.univ = w :=
  Memref.write_access_unit_zero_univ (Elt F) cc0_stg9_0 z3 _ f w

/-! ## The body -/

/-- The whole of a buffer of device `c`. -/
abbrev buf (c : Dev nD) (b : Ref sig .tc) (X : b.ty.Contents (Elt F)) : sProp 𝕄 :=
  (((c : Thread nD τ).loc b) ↦[Finset.univ]{fullShare} (show Buf (Elt F) (((c : Dev nD) : Thread nD τ).loc b) from X))

/-- What device `c` starts with besides its staging buffers. -/
def bodyStart (c : Dev nD) : sProp 𝕄 :=
  iprop(allInv P K ∗ levs ∗ (exPoss 0 c ∗ exToks 0 c ∗ exToks 1 c) ∗ (atPos ER (barC c) 0 ∅ 0 ∗ barToks 0 c ∗ barToks 1 c)
    ∗ (reached ER (barC (pX c)) 0 ∗ reached ER (barC (pM c)) 0)
    ∗ (∃ f, buf c cc0_scratch0 f) ∗ (∃ f, buf c cc0_scratch1 f) ∗ (∃ f, buf c cc0_scratch2 f))
/-- What it ends with. -/
def bodyEnd (c : Dev nD) : sProp 𝕄 :=
  iprop(exZero c ∗ semVal (barC c) 0 ∗ (∃ f, buf c cc0_scratch0 f) ∗ (∃ f, buf c cc0_scratch1 f) ∗ (∃ f, buf c cc0_scratch2 f))
/-- The nine input staging buffers. -/
def stgs (I : Ins F) (c : Dev nD) : sProp 𝕄 :=
  iprop(buf c cc0_stg0_0 I.x0 ∗ buf c cc0_stg1_0 I.x1 ∗ buf c cc0_stg2_0 I.x2 ∗ buf c cc0_stg3_0 I.x3 ∗ buf c cc0_stg4_0 I.x4 ∗ buf c cc0_stg5_0 I.x5 ∗ buf c cc0_stg6_0 I.x6 ∗ buf c cc0_stg7_0 I.x7 ∗ buf c cc0_stg8_0 I.x8)

set_option maxHeartbeats 4000000 in
set_option maxRecDepth 65536 in
/-- The body of one device. -/
theorem sound_body (I : Dev nD → Ins F) (c : Dev nD) (Kt : PUnit → sProp 𝕄) :
    iprop(bodyStart (parts I) K c ∗ ow c dAll ∗ stgs (I c) c ∗ (∃ f, buf c cc0_stg9_0 f)
        ∗ ((bodyEnd c ∗ ow c [] ∗ stgs (I c) c ∗ buf c cc0_stg9_0 (result I c)) -∗ Kt ⟨⟩))
      ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _)
     (Memref.whole cc0_scratch0) (Memref.isWhole_whole _) (Memref.whole cc0_scratch1) (Memref.isWhole_whole _)
     (Memref.whole cc0_scratch2) (Memref.isWhole_whole _) cc0_scratch3 cc0_scratch4) Kt := by
  simp only [cc0_body_eq_skeleton, cc0_body_skel, k0_part22_eq_skeleton, k0_part22_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel
    , k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel
    , k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel
    , k0_part19_eq_skeleton, k0_part19_skel, k0_part20_eq_skeleton, k0_part20_skel, k0_part21_eq_skeleton, k0_part21_skel,
    semSignalWord, semWaitWord, Prog.lift, Prog.bind_op, Prog.bind_ret, Prog.pure_eq_ret, wp_deviceId]
  unfold bodyStart stgs barToks
  iintro ⟨⟨#HI, #Hlev, ⟨HP, HT0, HT1⟩, ⟨HB, ⟨HtX, HtM, HcB⟩, ⟨HtX', HtM', HcB'⟩⟩, ⟨#HrX, #HrM⟩, ⟨%fc, HC⟩, ⟨%fu, HU⟩, ⟨%fv, HV⟩⟩, HO, ⟨S0, S1, S2, S3, S4, S5, S6, S7, S8⟩, ⟨%fo, S9⟩, Hk⟩
  ihave HE := (exs_join 0 c) $$ [HP HT0]
  · isplitl [HP] <;> iassumption
  icases HE with ⟨HE, HR⟩
  ihave HU := (u_split c fu).1 $$ HU
  icases HU with ⟨HU0, HU1⟩
  ihave HV := (v_split c fv).1 $$ HV
  icases HV with ⟨HV0, HV1⟩
  ihave HH := (hands 0 c) $$ [HU0 HU1 HV0 HV1 HR]
  · isplitl [HU0 HU1]
    · isplitl [HU0]
      · iexists _; iexact HU0
      · iexists _; iexact HU1
    isplitl [HV0 HV1]
    · isplitl [HV0]
      · iexists _; iexact HV0
      · iexists _; iexact HV1
    iexact HR
  icases HH with ⟨HhX, HhM⟩
  iapply (wp_bar (parts I) K c 0 (by decide) (dExs 0 ++ (dBar 1 ++ dExs 1)) (by decide) (dev1_eq c _) (dev2_eq c _) (by decide) (by decide) (by decide)) $$ [HO HtX HtM HhX HhM HcB HB]
  · isplitr; · iexact HI
    isplitr; · iexact Hlev
    isplitl [HO]; · iexact HO
    isplitl [HtX]; · iexact HtX
    isplitl [HtM]; · iexact HtM
    isplitr; · iexact HrX
    isplitr; · iexact HrM
    isplitl [HhX]; · iexact HhX
    isplitl [HhM]; · iexact HhM
    isplitl [HcB] <;> iassumption
  iintro ⟨HO, HB, #HrB, HhX, HhM⟩
  iapply (wp_load 𝒱₀ (c : Thread nD τ) none Set.univ (m := (Memref.whole cc0_stg5_0)) (Finset.subset_univ _)) $$ S5; iintro S5
  rw [read5]
  iapply (wp_load 𝒱₀ (c : Thread nD τ) none Set.univ (m := (Memref.whole cc0_stg6_0)) (Finset.subset_univ _)) $$ S6; iintro S6
  rw [read6]
  iapply (wp_load 𝒱₀ (c : Thread nD τ) none Set.univ (m := (Memref.whole cc0_stg0_0)) (Finset.subset_univ _)) $$ S0; iintro S0
  rw [read0]
  iapply (wp_load 𝒱₀ (c : Thread nD τ) none Set.univ (m := (Memref.whole cc0_stg1_0)) (Finset.subset_univ _)) $$ S1; iintro S1
  rw [read1]
  iapply (wp_load 𝒱₀ (c : Thread nD τ) none Set.univ (m := (Memref.whole cc0_stg2_0)) (Finset.subset_univ _)) $$ S2; iintro S2
  rw [read2]
  iapply (wp_load 𝒱₀ (c : Thread nD τ) none Set.univ (m := (Memref.whole cc0_stg3_0)) (Finset.subset_univ _)) $$ S3; iintro S3
  rw [read3]
  iapply (wp_load 𝒱₀ (c : Thread nD τ) none Set.univ (m := (Memref.whole cc0_stg4_0)) (Finset.subset_univ _)) $$ S4; iintro S4
  rw [read4]
  iapply (wp_load 𝒱₀ (c : Thread nD τ) none Set.univ (m := cM) (Finset.subset_univ _)) $$ HC; iintro HC
  iapply (wp_store 𝒱₀ (c : Thread nD τ) none Set.univ (m := cM) (r := Rect.unit (s := S1024x768) ![0, 0] S1024x768.size inb_S1024x768_S1024x768_0_0) (Mk := Finset.univ) (Finset.subset_univ _)) $$ HC; iintro HC
  rw [writeC]
  iapply (wp_ar (parts I) K c 0 (by decide) (dBar 1 ++ dExs 1) (by decide) (dev3_eq c _) (dev4_eq c _) (off1_eq c) (off2_eq c) pay27_eq pay28_eq (dev5_eq c _) (dev6_eq c _) (off5_eq c) (off6_eq c) pay29_eq pay31_eq (dev7_eq c _) (dev8_eq c _) (off9_eq c) (off10_eq c) (dev9_eq c _) (dev10_eq c _) (off11_eq c) (off12_eq c) (payE0 := k0_pay27) (payE1 := k0_pay28) (payG0 := k0_pay29) (payG1 := fun v w => k0_pay31 (k0_pay30 v) w)) $$ [HO HE HC HhX HhM]
  · isplitr; · iexact HI
    isplitr; · iexact Hlev
    isplitl [HO]; · iexact HO
    isplitl [HE]; · iexact HE
    isplitl [HC]; · iexact HC
    isplitl [HhX]; · iexact HhX
    isplitl [HhM]; · iexact HhM
    iexact HrB
  iintro ⟨HO, HE, HC, HU, HV, #HrX, #HrM⟩
  ihave HE := (exs_next 0 c) $$ HE
  ihave HE := (exs_join 1 c) $$ [HE HT1]
  · isplitl [HE] <;> iassumption
  icases HE with ⟨HE, HR⟩
  ihave HH := (hands 1 c) $$ [HU HV HR]
  · isplitl [HU]; · iexact HU
    isplitl [HV] <;> iassumption
  icases HH with ⟨HhX, HhM⟩
  iapply (wp_load 𝒱₀ (c : Thread nD τ) none Set.univ (m := cM) (Finset.subset_univ _)) $$ HC; iintro HC
  rw [readC]
  iapply (wp_load 𝒱₀ (c : Thread nD τ) none Set.univ (m := (Memref.whole cc0_stg7_0)) (Finset.subset_univ _)) $$ S7; iintro S7
  rw [read7]
  iapply (wp_load 𝒱₀ (c : Thread nD τ) none Set.univ (m := (Memref.whole cc0_stg8_0)) (Finset.subset_univ _)) $$ S8; iintro S8
  rw [read8]
  iapply (wp_bar (parts I) K c 1 (by decide) (dExs 1) (by decide) (dev11_eq c _) (dev12_eq c _) (by decide) (by decide) (by decide)) $$ [HO HtX' HtM' HhX HhM HcB' HB]
  · isplitr; · iexact HI
    isplitr; · iexact Hlev
    isplitl [HO]; · iexact HO
    isplitl [HtX']; · iexact HtX'
    isplitl [HtM']; · iexact HtM'
    isplitr; · iexact HrX
    isplitr; · iexact HrM
    isplitl [HhX]; · iexact HhX
    isplitl [HhM]; · iexact HhM
    isplitl [HcB'] <;> iassumption
  iintro ⟨HO, HB, #HrB, HhX, HhM⟩
  iapply (wp_load 𝒱₀ (c : Thread nD τ) none Set.univ (m := cM) (Finset.subset_univ _)) $$ HC; iintro HC
  iapply (wp_store 𝒱₀ (c : Thread nD τ) none Set.univ (m := cM) (r := Rect.unit (s := S1024x768) ![0, 0] S1024x768.size inb_S1024x768_S1024x768_0_0) (Mk := Finset.univ) (Finset.subset_univ _)) $$ HC; iintro HC
  rw [writeC]
  iapply (wp_ar (parts I) K c 1 (by decide) [] (by decide) (dev13_eq c _) (dev14_eq c _) (off1_eq c) (off2_eq c) pay35_eq pay36_eq (dev15_eq c _) (dev16_eq c _) (off5_eq c) (off6_eq c) pay37_eq pay38_eq (dev17_eq c _) (dev18_eq c _) (off9_eq c) (off10_eq c) (dev19_eq c _) (dev20_eq c _) (off11_eq c) (off12_eq c) (payE0 := k0_pay35) (payE1 := k0_pay36) (payG0 := k0_pay37) (payG1 := k0_pay38)) $$ [HO HE HC HhX HhM]
  · isplitr; · iexact HI
    isplitr; · iexact Hlev
    isplitl [HO]; · iexact HO
    isplitl [HE]; · iexact HE
    isplitl [HC]; · iexact HC
    isplitl [HhX]; · iexact HhX
    isplitl [HhM]; · iexact HhM
    iexact HrB
  iintro ⟨HO, HE, HC, HU, HV, #HrX, #HrM⟩
  ihave HE := (exs_next 1 c) $$ HE
  iapply (wp_load 𝒱₀ (c : Thread nD τ) none Set.univ (m := cM) (Finset.subset_univ _)) $$ HC; iintro HC
  rw [readC]
  iapply (wp_load 𝒱₀ (c : Thread nD τ) none Set.univ (m := (Memref.whole cc0_stg9_0)) (Finset.subset_univ _)) $$ S9; iintro S9
  iapply (wp_store 𝒱₀ (c : Thread nD τ) none Set.univ (m := (Memref.whole cc0_stg9_0)) (r := Rect.unit (s := S2x512x768) ![0, 0, 0] S2x512x768.size inb_S2x512x768_S2x512x768_0_0_0) (Mk := Finset.univ) (Finset.subset_univ _)) $$ S9; iintro S9
  rw [writeO, wp_ret]
  imod (close_all (parts I) K c) $$ [HE] with HZ
  · isplitr; · iexact HI
    iexact HE
  imod (close_one (parts I) K c none) $$ [HB] with HZB
  · isplitr; · iexact HI
    iexact HB
  imodintro
  iapply Hk
  unfold bodyEnd
  isplitl [HZ HZB HC HU HV]
  · isplitl [HZ]; · iexact HZ
    isplitl [HZB]; · iexact HZB
    isplitl [HC]; · iexists _; iexact HC
    isplitl [HU]; · iapply (u_join c); iexact HU
    iapply (v_join c); iexact HV
  isplitl [HO]; · iexact HO
  isplitl [S0 S1 S2 S3 S4 S5 S6 S7 S8]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  iexact S9

end Cert.Butterfly

end
-- ==== Proof.Launch.lean ====
/-
# 01_k — the launch of the four devices

The cells' invariants, the duty tokens and the launch credit are dealt to the devices; every device runs the body; at the end
the argument arrays are unchanged, every semaphore is zero and the result array holds what the device computed.
-/
module

public import proofs.«01_k».proof.Proof.Body
public import proofs.«01_k».proof.Proof.Gen.KernelIdeal.Launch
public import proofs.«01_k».proof.Proof.Gen.KernelIdeal.Points
public import Idealize.ShloMosaic.Lib.Pipeline.CollectiveSegs
public import Idealize.ShloMosaic.Lib.Claim
public import Idealize.ShloMosaic.Lib.Pipeline.ValueKit.Geometry
public import Idealize.ShloMosaic.Lib.Tactic

@[expose] public section

set_option backward.proofsInPublic true

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (m : (ℓ : Loc nD τ sig) → Buf (Elt F) ℓ) (ρ : Dev nD → PrngReg)

/-- The state before the run. -/
def s₀ : MemSt nD τ sig (Elt F) := ⟨m, fun _ => 0, ρ⟩
/-- What a device's argument arrays hold. -/
def insAt (c : Dev nD) : Ins F where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
/-- The partial sums of the run from memory `m`. -/
abbrev PP : ℕ → Dev nD → CB F := parts (insAt m)

/-! ## Tokens -/

/-- The duties of a device's own cells in a round. -/
abbrev TK : Type := Bool ⊕ (Bool × Fin 2 × Fin 4)
/-- Who pays a duty on device `c`'s cell; also on whose cell device `c` pays it. -/
def payer (t : TK) (c : Dev nD) : Dev nD := match t with
  | .inl true => pX c | .inl false => pM c | .inr (true, s, k) => peer s k c | .inr (false, _, _) => c
/-- Its own inverse. -/
theorem payer_payer (t : TK) (c : Dev nD) : payer t (payer t c) = c := by revert t c; decide
/-- The cell of a duty. -/
def tkCell (t : TK) : CK := match t with | .inl _ => none | .inr x => some x
/-- The name of a duty. -/
def tkDuty (t : TK) : Bool := match t with | .inl d => d | .inr _ => false
/-- A duty is read off its cell and its name. -/
theorem tk_inj : ∀ t t' : TK, tkCell t = tkCell t' → tkDuty t = tkDuty t' → t = t' := by decide
/-- A duty of a round as minted. -/
def tokOf (x : Dev nD × Fin 2 × TK) : GSem nD τ sig × ℕ × Bool := (cell x.1 (tkCell x.2.2), x.2.1.val, tkDuty x.2.2)

/-- Cells are different. -/
theorem cell_inj {c c' : Dev nD} {k k' : CK} (h : cell c k = cell c' k') : c = c' ∧ k = k' :=
  ⟨congrArg (fun g : GSem nD τ sig => g.1.1) h, csem_inj (congrArg Prod.snd h)⟩
/-- The cells of the mesh are different. -/
theorem kcell_injective : Function.Injective (fun x : Dev nD × CK => cell x.1 x.2) := fun x y h => Prod.ext (cell_inj h).1 (cell_inj h).2
/-- The duties of the mesh are different. -/
theorem tokOf_injective : Function.Injective tokOf := by
  rintro ⟨c, r, t⟩ ⟨c', r', t'⟩ h
  have h1 := cell_inj (congrArg Prod.fst h)
  have h2 : r.val = r'.val := congrArg (fun z => z.2.1) h
  have h3 : tkDuty t = tkDuty t' := congrArg (fun z => z.2.2) h
  exact Prod.ext h1.1 (Prod.ext (Fin.ext h2) (tk_inj _ _ h1.2 h3))

/-- The cells. -/
def meshCells : Finset (GSem nD τ sig) := Finset.univ.map ⟨fun x : Dev nD × CK => cell x.1 x.2, kcell_injective⟩
/-- The duties. -/
def meshToks : Finset (GSem nD τ sig × ℕ × Bool) := Finset.univ.map ⟨tokOf, tokOf_injective⟩
/-- The duties, each at the device that pays it. -/
def around : (Dev nD × Fin 2 × TK) ≃ (Dev nD × Fin 2 × TK) :=
  ⟨fun x => (payer x.2.2 x.1, x.2), fun x => (payer x.2.2 x.1, x.2), fun x => Prod.ext (payer_payer _ _) rfl, fun x => Prod.ext (payer_payer _ _) rfl⟩

/-- The launch element. -/
def u₀ : UU := (initOf (Pipeline.cells cfgs cellOf_inj) (Pipeline.launchToks cfgs cellOf_inj), initOf meshCells meshToks)

/-- The tokens of a round that device `c` pays with. -/
def payToks (r : ℕ) (c : Dev nD) : sProp 𝕄 := bigSep Finset.univ fun t : TK => dutyTok ER (cell (payer t c) (tkCell t)) r (tkDuty t)
/-- The positions of device `c`'s cells. -/
def poss (c : Dev nD) : sProp 𝕄 := bigSep Finset.univ fun k : CK => iprop(atPos ER (cell c k) 0 ∅ 0 ∗ reached ER (cell c k) 0)

/-- What the launch element deals device `c`. -/
def G (c : Dev nD) : sProp 𝕄 :=
  iprop((bigSep Finset.univ fun k : CK => roundState ER (Rd (PP m)) (cell c k) 0) ∗ poss c ∗ payToks 0 c ∗ payToks 1 c)
/-- What the global step makes of it. -/
def G' (c : Dev nD) : sProp 𝕄 :=
  iprop(∃ K, allInv (PP m) K ∗ poss c ∗ payToks 0 c ∗ payToks 1 c ∗ reached ER (barC (pX c)) 0 ∗ reached ER (barC (pM c)) 0)

/-- Funding. -/
theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : CK => Φ (cell c k) := by
    unfold meshCells; rw [bigSep_map, bigSep_univ_prod]; rfl
  have hT : bigSep meshToks (fun x => (dutyTok ER x.1 x.2.1 x.2.2 : sProp 𝕄)) = bigSep Finset.univ fun c : Dev nD => iprop(payToks 0 c ∗ payToks 1 c) := by
    unfold meshToks
    rw [bigSep_map, bigSep_univ_equiv around, bigSep_univ_prod]
    refine bigSep_congr fun c _ => ?_
    rw [bigSep_univ_prod, bigSep_univ_eq_bigSepL [(0 : Fin 2), 1] (by decide) (by decide), bigSepL_cons_cons, bigSepL_singleton]
    rfl
  iintro HX
  imod (Rounds.fund ER (Rd (PP m)) meshCells meshToks) $$ HX with ⟨Hst, Hr, Hat, Htok⟩
  imodintro
  ihave Hst' := (Entails.of_eq (hX fun g => roundState ER (Rd (PP m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  icases Htok' with ⟨Ht0, Ht1⟩
  isplitl [Hst']; · iexact Hst'
  isplitl [Hat' Hr']
  · isplitl [Hat'] <;> iassumption
  isplitl [Ht0] <;> iassumption

/-! ## The semaphores -/

/-- The kernel's own semaphores: the send and receive arrays. -/
def osem (x : Bool × Fin 2 × Fin 4) : SemLoc sig := csem (some x)
/-- They are no staging semaphores. -/
theorem ownSemFacts : Pipeline.OwnSemFacts cfg0.spec osem := by decide

omit [FloatOps F] [Named F] in
/-- Over the cells of a device, one by one. -/
theorem sep_cks (Φ : CK → sProp 𝕄) : bigSep Finset.univ Φ = iprop(Φ none ∗ Φ (some (false, 0, 0)) ∗ Φ (some (false, 0, 1)) ∗ Φ (some (false, 0, 2)) ∗ Φ (some (false, 0, 3)) ∗ Φ (some (false, 1, 0)) ∗ Φ (some (false, 1, 1)) ∗ Φ (some (false, 1, 2)) ∗ Φ (some (false, 1, 3)) ∗ Φ (some (true, 0, 0)) ∗ Φ (some (true, 0, 1)) ∗ Φ (some (true, 0, 2)) ∗ Φ (some (true, 0, 3)) ∗ Φ (some (true, 1, 0)) ∗ Φ (some (true, 1, 1)) ∗ Φ (some (true, 1, 2)) ∗ Φ (some (true, 1, 3))) := by
  rw [bigSep_univ_eq_bigSepL cks (by decide) (by decide)]; rfl

omit [FloatOps F] [Named F] in
/-- The kernel's own semaphores at zero, one by one. -/
theorem ownSems0_eq (c : Dev nD) : (Pipeline.ownSems0 (Ix := ℕ) (Name := ℕ) (U := UU) (Lvl := ℕ) (Val := Elt F) (τ := τ) osem c : sProp 𝕄)
    = iprop(semVal (cell c (some (false, 0, 0))) 0 ∗ semVal (cell c (some (false, 0, 1))) 0 ∗ semVal (cell c (some (false, 0, 2))) 0 ∗ semVal (cell c (some (false, 0, 3))) 0 ∗ semVal (cell c (some (false, 1, 0))) 0 ∗ semVal (cell c (some (false, 1, 1))) 0 ∗ semVal (cell c (some (false, 1, 2))) 0 ∗ semVal (cell c (some (false, 1, 3))) 0 ∗ semVal (cell c (some (true, 0, 0))) 0 ∗ semVal (cell c (some (true, 0, 1))) 0 ∗ semVal (cell c (some (true, 0, 2))) 0 ∗ semVal (cell c (some (true, 0, 3))) 0 ∗ semVal (cell c (some (true, 1, 0))) 0 ∗ semVal (cell c (some (true, 1, 1))) 0 ∗ semVal (cell c (some (true, 1, 2))) 0 ∗ semVal (cell c (some (true, 1, 3))) 0) := by
  rw [Pipeline.ownSems0_eq_of_list c osem [(false, 0, 0), (false, 0, 1), (false, 0, 2), (false, 0, 3), (false, 1, 0), (false, 1, 1), (false, 1, 2), (false, 1, 3), (true, 0, 0), (true, 0, 1), (true, 0, 2), (true, 0, 3), (true, 1, 0), (true, 1, 1), (true, 1, 2), (true, 1, 3)] (by decide) (by decide)]; rfl
omit [FloatOps F] [Named F] in
/-- The barrier semaphore is the one semaphore outside the kernel's scope. -/
theorem unscopedSems0_eq (c : Dev nD) : (unscopedSems0 c : sProp 𝕄) = semVal (barC c) 0 := by
  unfold unscopedSems0; rw [bigSep_eq_bigSepL_of_eq [SemLoc.reg barS] (by decide) (by decide)]; rfl
omit [FloatOps F] [Named F] in
/-- All the counters at zero, cell by cell. -/
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (cell c k) 0 : sProp 𝕄) := by
  rw [ownSems0_eq, unscopedSems0_eq, sep_cks]
  iintro ⟨H, HB⟩
  isplitl [HB]; · iexact HB
  iexact H
omit [FloatOps F] [Named F] in
/-- The DMA cells' counters as the launch wants them back. -/
theorem exZero_own (c : Dev nD) : (exZero c : sProp 𝕄) ⊢ Pipeline.ownSems0 (Ix := ℕ) (Name := ℕ) (U := UU) (Lvl := ℕ) (Val := Elt F) (τ := τ) osem c := by
  rw [ownSems0_eq]
  unfold exZero
  iintro ⟨⟨S00, S01, S02, S03, S10, S11, S12, S13⟩, R00, R01, R02, R03, R10, R11, R12, R13⟩
  isplitl [S00]; · iexact S00
  isplitl [S01]; · iexact S01
  isplitl [S02]; · iexact S02
  isplitl [S03]; · iexact S03
  isplitl [S10]; · iexact S10
  isplitl [S11]; · iexact S11
  isplitl [S12]; · iexact S12
  isplitl [S13]; · iexact S13
  isplitl [R00]; · iexact R00
  isplitl [R01]; · iexact R01
  isplitl [R02]; · iexact R02
  isplitl [R03]; · iexact R03
  isplitl [R10]; · iexact R10
  isplitl [R11]; · iexact R11
  isplitl [R12]; · iexact R12
  iexact R13

/-- The invariants of one device's cells. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd (PP m)) κ (cell c k))) ∗ poss c ∗ payToks 0 c ∗ payToks 1 c) := by
  unfold G
  iintro ⟨Hos, Hus, Hst, Hrest⟩
  ihave Hv := (sems0_eq (F := F) c) $$ [Hos Hus]
  · isplitl [Hos] <;> iassumption
  have hA : iprop((bigSep Finset.univ fun k : CK => semVal (cell c k) 0) ∗ bigSep Finset.univ fun k : CK => roundState ER (Rd (PP m)) (cell c k) 0)
      ⊢ (|={Set.univ}=> bigSep Finset.univ fun k : CK => iprop(∃ κ : ℕ, cellInv ER (Rd (PP m)) κ (cell c k)) : sProp 𝕄) := by
    rw [← bigSep_sep']
    exact (bigSep_mono fun k _ => (Rounds.body_intro ER (Rd (PP m)) (cell c k)).trans inv_alloc).trans (bigSep_fupd _ _)
  imod hA $$ [Hv Hst] with Hinv
  · isplitl [Hv] <;> iassumption
  imodintro
  isplitl [Hinv]; · iexact Hinv
  iexact Hrest

/-- The records every device may read. -/
def records (K : Dev nD × CK → ℕ) : sProp 𝕄 := iprop(allInv (PP m) K ∗ bigSep Finset.univ fun x : Dev nD × CK => reached ER (cell x.1 x.2) 0)

instance records_persistent (K : Dev nD × CK → ℕ) : BI.Persistent (records m K) := by unfold records; infer_instance

omit [FloatOps F] [Named F] in
/-- One of the records. -/
theorem reached_at (d : Dev nD) (k : CK) : (bigSep Finset.univ fun x : Dev nD × CK => (reached ER (cell x.1 x.2) 0 : sProp 𝕄)) ⊢ reached ER (cell d k) 0 :=
  bigSep_elim (i := (d, k)) (Finset.mem_univ _) (Φ := fun x : Dev nD × CK => (reached ER (cell x.1 x.2) 0 : sProp 𝕄))

/-- What stays with device `c`. -/
def linear (c : Dev nD) : sProp 𝕄 := iprop(poss c ∗ payToks 0 c ∗ payToks 1 c)

/-- The records and a device's own share. -/
theorem ghost_intro (K : Dev nD × CK → ℕ) (c : Dev nD) : iprop(records m K ∗ linear c) ⊢ G' m c := by
  unfold records linear G'
  iintro ⟨⟨#HI, #HR⟩, Hp, Ht0, Ht1⟩
  iexists K
  isplitr; · iexact HI
  isplitl [Hp]; · iexact Hp
  isplitl [Ht0]; · iexact Ht0
  isplitl [Ht1]; · iexact Ht1
  isplitr; · iapply (reached_at (F := F) (pX c) none); iexact HR
  iapply (reached_at (F := F) (pM c) none); iexact HR

omit [FloatOps F] [Named F] in
/-- Records dealt to every device. -/
theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] [Named F] in
/-- The positions bring the records of round 0. -/
theorem poss_reached (c : Dev nD) : (poss c : sProp 𝕄) ⊢ iprop(poss c ∗ bigSep Finset.univ fun k : CK => reached ER (cell c k) 0) := by
  unfold poss; rw [bigSep_sep']
  iintro ⟨H, #HR⟩
  isplitl
  · isplitl; · iexact H
    iexact HR
  iexact HR

omit [FloatOps F] [Named F] in
/-- A device's own share brings the records of round 0. -/
theorem linear_reached (c : Dev nD) : (linear c : sProp 𝕄) ⊢ iprop(linear c ∗ bigSep Finset.univ fun k : CK => reached ER (cell c k) 0) := by
  unfold linear
  iintro ⟨H, Ht⟩
  ihave H := (poss_reached (F := F) c) $$ H
  icases H with ⟨H, #HR⟩
  isplitl
  · isplitl [H] <;> iassumption
  iexact HR

/-- The invariants named at once. -/
theorem regroup :
    (bigSep Finset.univ fun c : Dev nD => iprop((bigSep Finset.univ fun k : CK => iprop(∃ κ : ℕ, cellInv ER (Rd (PP m)) κ (cell c k))) ∗ linear c) : sProp 𝕄)
      ⊢ bigSep Finset.univ (G' m) := by
  rw [bigSep_sep', ← bigSep_univ_prod (fun x : Dev nD × CK => iprop(∃ κ : ℕ, cellInv ER (Rd (PP m)) κ (cell x.1 x.2)))]
  have hL : (bigSep Finset.univ fun c : Dev nD => (linear c : sProp 𝕄))
      ⊢ iprop((bigSep Finset.univ fun c : Dev nD => (linear c : sProp 𝕄)) ∗ bigSep Finset.univ fun x : Dev nD × CK => reached ER (cell x.1 x.2) 0) := by
    rw [bigSep_univ_prod (fun x : Dev nD × CK => (reached ER (cell x.1 x.2) 0 : sProp 𝕄)), ← bigSep_sep']
    exact bigSep_mono fun c _ => linear_reached c
  iintro ⟨HI, Hlin⟩
  ihave HK := (BI.bigSep_exists_pi Finset.univ (fun (x : Dev nD × CK) (κ : ℕ) => (cellInv ER (Rd (PP m)) κ (cell x.1 x.2) : sProp 𝕄))) $$ HI
  icases HK with ⟨%K, #HI⟩
  ihave Hlin := hL $$ Hlin
  icases Hlin with ⟨Hlin, #HR⟩
  iapply (deal (R := records m K) fun c _ => ghost_intro m K c)
  isplitr
  · unfold records allInv; isplitl; · iexact HI
    iexact HR
  iexact Hlin

/-- The global step. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The credit of a list of dues, at the device they are paid to. -/
def credL (c : Dev nD) : List Due → sProp 𝕄
  | [] => iprop(emp)
  | x :: D => iprop(cred (tallyAt (cell c x.2.1) x.2.2.1 x.2.2.2) ∗ credL c D)

omit [FloatOps F] [Named F] in
/-- The launch credit is that of the dues. -/
theorem credL_intro (c : Dev nD) (D : List Due) : (Pipeline.launchCred (fun d => owed d D) c : sProp 𝕄) ⊢ credL c D := by
  induction D with
  | nil => rw [show (fun d : Dev nD => owed d []) = fun _ => 0 from rfl, Pipeline.launchCred_zero]; exact BI.Entails.refl _
  | cons x D ih =>
    rw [show (fun d : Dev nD => owed d (x :: D)) = fun d => owed d D + tallyAt (cell (pB x.1 d) x.2.1) x.2.2.1 x.2.2.2 from funext fun d => owed_cons d x D,
      Pipeline.launchCred_add]
    have hb : ∀ (b : Bool) (d : Dev nD), pB b (pB b d) = d := by decide
    iintro ⟨H1, H2⟩
    unfold credL
    isplitl [H2]
    · iapply (Pipeline.launchCred_tallyAt (csem x.2.1) (pB x.1) (pB x.1) (hb x.1) (hb x.1) x.2.2.1 x.2.2.2 c); iexact H2
    · iapply ih; iexact H1

/-! ## The window data -/

/-- What a device starts the body with. -/
def start (c : Dev nD) : sProp 𝕄 := iprop(G' m c ∗ credL c dAll ∗ levs)
/-- Before the body. -/
def Φ₀ (c : Dev nD) : sProp 𝕄 := iprop(start m c ∗ (∃ f, buf c cc0_scratch0 f) ∗ (∃ f, buf c cc0_scratch1 f) ∗ (∃ f, buf c cc0_scratch2 f))

/-- The window data: the staging buffers after the body, what is owed, what is kept. -/
def dats (_ : Fin 1) (c : Dev nD) : Dat τ (Elt F) ℕ ℕ UU ℕ cfg0 c where
  A w := m ((cfg0.win w).arr.view.loc (c : Thread nD τ))
  after w _ := match w with
    | ⟨0, _⟩ => (insAt m c).x0
    | ⟨1, _⟩ => (insAt m c).x1
    | ⟨2, _⟩ => (insAt m c).x2
    | ⟨3, _⟩ => (insAt m c).x3
    | ⟨4, _⟩ => (insAt m c).x4
    | ⟨5, _⟩ => (insAt m c).x5
    | ⟨6, _⟩ => (insAt m c).x6
    | ⟨7, _⟩ => (insAt m c).x7
    | ⟨8, _⟩ => (insAt m c).x8
    | ⟨9, _⟩ => result (insAt m) c
  Φ t := match t with
    | ⟨0, _⟩ => Φ₀ m c
    | ⟨_ + 1, _⟩ => bodyEnd c
  q _ := fullShare
  owed t := match t with
    | ⟨0, _⟩ => owed c dAll
    | ⟨_ + 1, _⟩ => 0

omit [FloatOps F] [Named F] in
/-- A whole staging buffer held. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer held, its contents named by an equation. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] [Named F] in
/-- The same without the equation. -/
theorem stg_eq (c : Dev nD) (b : Ref sig .tc) (X : b.ty.Contents (Elt F)) : (stg c b X : sProp 𝕄) ⊣⊢ buf c b X := by
  constructor
  · iintro ⟨%f, %hf, H⟩
    subst hf; iexact H
  · iintro H
    iexists _
    isplitr
    · ipureintro; rfl
    iexact H

/-- What the body of device `c` starts with, window by window. -/
def bodyPre (c : Dev nD) : sProp 𝕄 :=
  iprop(Φ₀ m c ∗ (dats m 0 c).owesAt (0 : ℕ) t0_0.castSucc
    ∗ (∃ d, stg c cc0_stg0_0 ((dats m 0 c).before (0 : Fin 10) t0_0 d))
    ∗ (∃ d, stg c cc0_stg1_0 ((dats m 0 c).before (1 : Fin 10) t0_0 d))
    ∗ (∃ d, stg c cc0_stg2_0 ((dats m 0 c).before (2 : Fin 10) t0_0 d))
    ∗ (∃ d, stg c cc0_stg3_0 ((dats m 0 c).before (3 : Fin 10) t0_0 d))
    ∗ (∃ d, stg c cc0_stg4_0 ((dats m 0 c).before (4 : Fin 10) t0_0 d))
    ∗ (∃ d, stg c cc0_stg5_0 ((dats m 0 c).before (5 : Fin 10) t0_0 d))
    ∗ (∃ d, stg c cc0_stg6_0 ((dats m 0 c).before (6 : Fin 10) t0_0 d))
    ∗ (∃ d, stg c cc0_stg7_0 ((dats m 0 c).before (7 : Fin 10) t0_0 d))
    ∗ (∃ d, stg c cc0_stg8_0 ((dats m 0 c).before (8 : Fin 10) t0_0 d))
    ∗ (∃ d, stg c cc0_stg9_0 ((dats m 0 c).before (9 : Fin 10) t0_0 d)))
/-- What it ends with, window by window. -/
def bodyPost (c : Dev nD) : sProp 𝕄 :=
  iprop(bodyEnd c ∗ (dats m 0 c).owesAt (0 : ℕ) t0_0.succ
    ∗ stg c cc0_stg0_0 (insAt m c).x0
    ∗ stg c cc0_stg1_0 (insAt m c).x1
    ∗ stg c cc0_stg2_0 (insAt m c).x2
    ∗ stg c cc0_stg3_0 (insAt m c).x3
    ∗ stg c cc0_stg4_0 (insAt m c).x4
    ∗ stg c cc0_stg5_0 (insAt m c).x5
    ∗ stg c cc0_stg6_0 (insAt m c).x6
    ∗ stg c cc0_stg7_0 (insAt m c).x7
    ∗ stg c cc0_stg8_0 (insAt m c).x8
    ∗ stg c cc0_stg9_0 (result (insAt m) c))

/-- Window 0 stages the whole of its argument. -/
theorem before0 (c : Dev nD) (d) : (dats m 0 c).before (0 : Fin 10) t0_0 d = (insAt m c).x0 := by
  unfold Dat.before; rw [if_pos (fetch0_0 t0_0)]
  funext j
  show (dats m 0 c).blockOf (0 : Fin 10) t0_0 j = _
  blk_simp
  show m ((c : Thread nD τ).loc main_arg0) _ = m ((c : Thread nD τ).loc main_arg0) j
  congr 1
  funext a
  apply Fin.ext
  blk_simp
  show 0 * _ + (j a).val = (j a).val
  rw [Nat.zero_mul, Nat.zero_add]
/-- Window 1 stages the whole of its argument. -/
theorem before1 (c : Dev nD) (d) : (dats m 0 c).before (1 : Fin 10) t0_0 d = (insAt m c).x1 := by
  unfold Dat.before; rw [if_pos (fetch0_1 t0_0)]
  funext j
  show (dats m 0 c).blockOf (1 : Fin 10) t0_0 j = _
  blk_simp
  show m ((c : Thread nD τ).loc main_arg1) _ = m ((c : Thread nD τ).loc main_arg1) j
  congr 1
  funext a
  apply Fin.ext
  blk_simp
  show 0 * _ + (j a).val = (j a).val
  rw [Nat.zero_mul, Nat.zero_add]
/-- Window 2 stages the whole of its argument. -/
theorem before2 (c : Dev nD) (d) : (dats m 0 c).before (2 : Fin 10) t0_0 d = (insAt m c).x2 := by
  unfold Dat.before; rw [if_pos (fetch0_2 t0_0)]
  funext j
  show (dats m 0 c).blockOf (2 : Fin 10) t0_0 j = _
  blk_simp
  show m ((c : Thread nD τ).loc main_arg2) _ = m ((c : Thread nD τ).loc main_arg2) j
  congr 1
  funext a
  apply Fin.ext
  blk_simp
  show 0 * _ + (j a).val = (j a).val
  rw [Nat.zero_mul, Nat.zero_add]
/-- Window 3 stages the whole of its argument. -/
theorem before3 (c : Dev nD) (d) : (dats m 0 c).before (3 : Fin 10) t0_0 d = (insAt m c).x3 := by
  unfold Dat.before; rw [if_pos (fetch0_3 t0_0)]
  funext j
  show (dats m 0 c).blockOf (3 : Fin 10) t0_0 j = _
  blk_simp
  show m ((c : Thread nD τ).loc main_arg3) _ = m ((c : Thread nD τ).loc main_arg3) j
  congr 1
  funext a
  apply Fin.ext
  blk_simp
  show 0 * _ + (j a).val = (j a).val
  rw [Nat.zero_mul, Nat.zero_add]
/-- Window 4 stages the whole of its argument. -/
theorem before4 (c : Dev nD) (d) : (dats m 0 c).before (4 : Fin 10) t0_0 d = (insAt m c).x4 := by
  unfold Dat.before; rw [if_pos (fetch0_4 t0_0)]
  funext j
  show (dats m 0 c).blockOf (4 : Fin 10) t0_0 j = _
  blk_simp
  show m ((c : Thread nD τ).loc main_arg4) _ = m ((c : Thread nD τ).loc main_arg4) j
  congr 1
  funext a
  apply Fin.ext
  blk_simp
  show 0 * _ + (j a).val = (j a).val
  rw [Nat.zero_mul, Nat.zero_add]
/-- Window 5 stages the whole of its argument. -/
theorem before5 (c : Dev nD) (d) : (dats m 0 c).before (5 : Fin 10) t0_0 d = (insAt m c).x5 := by
  unfold Dat.before; rw [if_pos (fetch0_5 t0_0)]
  funext j
  show (dats m 0 c).blockOf (5 : Fin 10) t0_0 j = _
  blk_simp
  show m ((c : Thread nD τ).loc main_arg5) _ = m ((c : Thread nD τ).loc main_arg5) j
  congr 1
  funext a
  apply Fin.ext
  blk_simp
  show 0 * _ + (j a).val = (j a).val
  rw [Nat.zero_mul, Nat.zero_add]
/-- Window 6 stages the whole of its argument. -/
theorem before6 (c : Dev nD) (d) : (dats m 0 c).before (6 : Fin 10) t0_0 d = (insAt m c).x6 := by
  unfold Dat.before; rw [if_pos (fetch0_6 t0_0)]
  funext j
  show (dats m 0 c).blockOf (6 : Fin 10) t0_0 j = _
  blk_simp
  show m ((c : Thread nD τ).loc main_arg6) _ = m ((c : Thread nD τ).loc main_arg6) j
  congr 1
  funext a
  apply Fin.ext
  blk_simp
  show 0 * _ + (j a).val = (j a).val
  rw [Nat.zero_mul, Nat.zero_add]
/-- Window 7 stages the whole of its argument. -/
theorem before7 (c : Dev nD) (d) : (dats m 0 c).before (7 : Fin 10) t0_0 d = (insAt m c).x7 := by
  unfold Dat.before; rw [if_pos (fetch0_7 t0_0)]
  funext j
  show (dats m 0 c).blockOf (7 : Fin 10) t0_0 j = _
  blk_simp
  show m ((c : Thread nD τ).loc main_arg7) _ = m ((c : Thread nD τ).loc main_arg7) j
  congr 1
  funext a
  apply Fin.ext
  blk_simp
  show 0 * _ + (j a).val = (j a).val
  rw [Nat.zero_mul, Nat.zero_add]
/-- Window 8 stages the whole of its argument. -/
theorem before8 (c : Dev nD) (d) : (dats m 0 c).before (8 : Fin 10) t0_0 d = (insAt m c).x8 := by
  unfold Dat.before; rw [if_pos (fetch0_8 t0_0)]
  funext j
  show (dats m 0 c).blockOf (8 : Fin 10) t0_0 j = _
  blk_simp
  show m ((c : Thread nD τ).loc main_arg8) _ = m ((c : Thread nD τ).loc main_arg8) j
  congr 1
  funext a
  apply Fin.ext
  blk_simp
  show 0 * _ + (j a).val = (j a).val
  rw [Nat.zero_mul, Nat.zero_add]

omit [FloatOps F] [Named F] in
/-- The positions, cell by cell. -/
theorem poss_elim (c : Dev nD) : (poss c : sProp 𝕄) ⊢ iprop(atPos ER (barC c) 0 ∅ 0 ∗ exPoss 0 c) := by
  unfold poss exPoss exPos
  rw [sep_cks]
  beta_reduce
  iintro ⟨⟨B, -⟩, ⟨S00, #rS00⟩, ⟨S10, #rS10⟩, ⟨S20, #rS20⟩, ⟨S30, #rS30⟩, ⟨S01, #rS01⟩, ⟨S11, #rS11⟩, ⟨S21, #rS21⟩, ⟨S31, #rS31⟩, ⟨R00, #rR00⟩, ⟨R10, #rR10⟩, ⟨R20, #rR20⟩, ⟨R30, #rR30⟩, ⟨R01, #rR01⟩, ⟨R11, #rR11⟩, ⟨R21, #rR21⟩, ⟨R31, #rR31⟩⟩
  isplitl [B]; · iexact B
  isplitl [S00 R00 S01 R01]
  · isplitl [S00 R00]
    · isplitl [S00]; · iexact S00
      isplitl [R00]; · iexact R00
      isplitr; · iexact rS00
      iexact rR00
    · isplitl [S01]; · iexact S01
      isplitl [R01]; · iexact R01
      isplitr; · iexact rS01
      iexact rR01
  isplitl [S10 R10 S11 R11]
  · isplitl [S10 R10]
    · isplitl [S10]; · iexact S10
      isplitl [R10]; · iexact R10
      isplitr; · iexact rS10
      iexact rR10
    · isplitl [S11]; · iexact S11
      isplitl [R11]; · iexact R11
      isplitr; · iexact rS11
      iexact rR11
  isplitl [S20 R20 S21 R21]
  · isplitl [S20 R20]
    · isplitl [S20]; · iexact S20
      isplitl [R20]; · iexact R20
      isplitr; · iexact rS20
      iexact rR20
    · isplitl [S21]; · iexact S21
      isplitl [R21]; · iexact R21
      isplitr; · iexact rS21
      iexact rR21
  isplitl [S30 R30]
  · isplitl [S30]; · iexact S30
    isplitl [R30]; · iexact R30
    isplitr; · iexact rS30
    iexact rR30
  · isplitl [S31]; · iexact S31
    isplitl [R31]; · iexact R31
    isplitr; · iexact rS31
    iexact rR31

/-- All the duties of a round. -/
def tks : List TK := [.inl false, .inl true, .inr (false, 0, 0), .inr (false, 0, 1), .inr (false, 0, 2), .inr (false, 0, 3), .inr (false, 1, 0), .inr (false, 1, 1), .inr (false, 1, 2), .inr (false, 1, 3), .inr (true, 0, 0), .inr (true, 0, 1), .inr (true, 0, 2), .inr (true, 0, 3), .inr (true, 1, 0), .inr (true, 1, 1), .inr (true, 1, 2), .inr (true, 1, 3)]

omit [FloatOps F] [Named F] in
/-- Over the duties of a device, one by one. -/
theorem sep_tks (Φ : TK → sProp 𝕄) : bigSep Finset.univ Φ = iprop(Φ (.inl false) ∗ Φ (.inl true) ∗ Φ (.inr (false, 0, 0)) ∗ Φ (.inr (false, 0, 1)) ∗ Φ (.inr (false, 0, 2)) ∗ Φ (.inr (false, 0, 3)) ∗ Φ (.inr (false, 1, 0)) ∗ Φ (.inr (false, 1, 1)) ∗ Φ (.inr (false, 1, 2)) ∗ Φ (.inr (false, 1, 3)) ∗ Φ (.inr (true, 0, 0)) ∗ Φ (.inr (true, 0, 1)) ∗ Φ (.inr (true, 0, 2)) ∗ Φ (.inr (true, 0, 3)) ∗ Φ (.inr (true, 1, 0)) ∗ Φ (.inr (true, 1, 1)) ∗ Φ (.inr (true, 1, 2)) ∗ Φ (.inr (true, 1, 3))) := by
  rw [bigSep_univ_eq_bigSepL tks (by decide) (by decide)]; rfl

omit [FloatOps F] [Named F] in
/-- The tokens of a round, one by one, with the round's credits. -/
theorem toks_elim (r : ℕ) (c : Dev nD) : (iprop(payToks r c ∗ cred (tallyAt (barC c) (10 * r + 1) 1) ∗ cred (tallyAt (barC c) (10 * r + 1) 1)
    ∗ cred (tallyAt (rcvC c 0 0) (10 * r + 2 + (0 : Fin 4).val) (NN 0))    ∗ cred (tallyAt (rcvC c 1 0) (10 * r + 2 + (0 : Fin 4).val) (NN 0))
    ∗ cred (tallyAt (rcvC c 0 1) (10 * r + 2 + (1 : Fin 4).val) (NN 1))    ∗ cred (tallyAt (rcvC c 1 1) (10 * r + 2 + (1 : Fin 4).val) (NN 1))
    ∗ cred (tallyAt (rcvC c 0 2) (10 * r + 2 + (2 : Fin 4).val) (NN 2))    ∗ cred (tallyAt (rcvC c 1 2) (10 * r + 2 + (2 : Fin 4).val) (NN 2))
    ∗ cred (tallyAt (rcvC c 0 3) (10 * r + 2 + (3 : Fin 4).val) (NN 3))    ∗ cred (tallyAt (rcvC c 1 3) (10 * r + 2 + (3 : Fin 4).val) (NN 3))
    ) : sProp 𝕄) ⊢ iprop(barToks r c ∗ exToks r c) := by
  unfold payToks barToks exToks exTok
  rw [sep_tks, show tallyAt (barC c) (10 * r + 1) 2 = tallyAt (barC c) (10 * r + 1) 1 + tallyAt (barC c) (10 * r + 1) 1 from (tallyAt_add _ _ 1 1).symm]
  beta_reduce
  iintro ⟨⟨bF, bT, S00, S10, S20, S30, S01, S11, S21, S31, R00, R10, R20, R30, R01, R11, R21, R31⟩, zb1, zb2, zc00, zc01, zc10, zc11, zc20, zc21, zc30, zc31⟩
  isplitl [bF bT zb1 zb2]
  · isplitl [bT]; · iexact bT
    isplitl [bF]; · iexact bF
    iapply (cred_add _ _).2
    isplitl [zb1] <;> iassumption
  isplitl [S00 R00 zc00 S01 R01 zc01]
  · isplitl [S00 R00 zc00]
    · isplitl [S00]; · iexact S00
      isplitl [R00]; · iexact R00
      iexact zc00
    · isplitl [S01]; · iexact S01
      isplitl [R01]; · iexact R01
      iexact zc01
  isplitl [S10 R10 zc10 S11 R11 zc11]
  · isplitl [S10 R10 zc10]
    · isplitl [S10]; · iexact S10
      isplitl [R10]; · iexact R10
      iexact zc10
    · isplitl [S11]; · iexact S11
      isplitl [R11]; · iexact R11
      iexact zc11
  isplitl [S20 R20 zc20 S21 R21 zc21]
  · isplitl [S20 R20 zc20]
    · isplitl [S20]; · iexact S20
      isplitl [R20]; · iexact R20
      iexact zc20
    · isplitl [S21]; · iexact S21
      isplitl [R21]; · iexact R21
      iexact zc21
  isplitl [S30 R30 zc30]
  · isplitl [S30]; · iexact S30
    isplitl [R30]; · iexact R30
    iexact zc30
  · isplitl [S31]; · iexact S31
    isplitl [R31]; · iexact R31
    iexact zc31

/-- A device's share of the launch is what the body starts with. -/
theorem start_body (c : Dev nD) : Φ₀ m c ⊢ iprop(∃ K, bodyStart (PP m) K c) := by
  unfold Φ₀ start G' bodyStart
  simp only [dAll, dBar, dExs, dEx, List.cons_append, List.nil_append, credL]
  iintro ⟨⟨⟨%K, #HI, Hp, Ht0, Ht1, #HX, #HM⟩, ⟨xb1, xb2, xc00, xc01, xc10, xc11, xc20, xc21, xc30, xc31, yb1, yb2, yc00, yc01, yc10, yc11, yc20, yc21, yc30, yc31, -⟩, #Hlev⟩, HC, HU, HV⟩
  ihave Hp := (poss_elim (F := F) c) $$ Hp
  icases Hp with ⟨HB, HP⟩
  ihave H0 := (toks_elim (F := F) 0 c) $$ [Ht0 xb1 xb2 xc00 xc01 xc10 xc11 xc20 xc21 xc30 xc31]
  · isplitl [Ht0]; · iexact Ht0
    isplitl [xb1]; · iexact xb1
    isplitl [xb2]; · iexact xb2
    isplitl [xc00]; · iexact xc00
    isplitl [xc01]; · iexact xc01
    isplitl [xc10]; · iexact xc10
    isplitl [xc11]; · iexact xc11
    isplitl [xc20]; · iexact xc20
    isplitl [xc21]; · iexact xc21
    isplitl [xc30]; · iexact xc30
    iexact xc31
  icases H0 with ⟨HB0, HE0⟩
  ihave H1 := (toks_elim (F := F) 1 c) $$ [Ht1 yb1 yb2 yc00 yc01 yc10 yc11 yc20 yc21 yc30 yc31]
  · isplitl [Ht1]; · iexact Ht1
    isplitl [yb1]; · iexact yb1
    isplitl [yb2]; · iexact yb2
    isplitl [yc00]; · iexact yc00
    isplitl [yc01]; · iexact yc01
    isplitl [yc10]; · iexact yc10
    isplitl [yc11]; · iexact yc11
    isplitl [yc20]; · iexact yc20
    isplitl [yc21]; · iexact yc21
    isplitl [yc30]; · iexact yc30
    iexact yc31
  icases H1 with ⟨HB1, HE1⟩
  iexists K
  isplitr; · iexact HI
  isplitr; · iexact Hlev
  isplitl [HP HE0 HE1]
  · isplitl [HP]; · iexact HP
    isplitl [HE0] <;> iassumption
  isplitl [HB HB0 HB1]
  · isplitl [HB]; · iexact HB
    isplitl [HB0] <;> iassumption
  isplitr
  · isplitr; · iexact HX
    iexact HM
  isplitl [HC]; · iexact HC
  isplitl [HU] <;> iassumption

/-- The body at the window data. -/
theorem sound_windows (c : Dev nD) : bodyPre m c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _)
     (Memref.whole cc0_scratch0) (Memref.isWhole_whole _) (Memref.whole cc0_scratch1) (Memref.isWhole_whole _)
     (Memref.whole cc0_scratch2) (Memref.isWhole_whole _) cc0_scratch3 cc0_scratch4) (fun _ => bodyPost m c) := by
  unfold bodyPre Dat.owesAt Pipeline.owesWithin
  rw [show (dats m 0 c).owed t0_0.castSucc = owed c dAll from rfl]
  iintro ⟨HΦ, ⟨%W, %hW, HO⟩, ⟨%d0, S0⟩, ⟨%d1, S1⟩, ⟨%d2, S2⟩, ⟨%d3, S3⟩, ⟨%d4, S4⟩, ⟨%d5, S5⟩, ⟨%d6, S6⟩, ⟨%d7, S7⟩, ⟨%d8, S8⟩, ⟨%d9, S9⟩⟩
  rw [before0 m c d0]
  rw [before1 m c d1]
  rw [before2 m c d2]
  rw [before3 m c d3]
  rw [before4 m c d4]
  rw [before5 m c d5]
  rw [before6 m c d6]
  rw [before7 m c d7]
  rw [before8 m c d8]
  ihave S0 := (stg_eq (F := F) c cc0_stg0_0 _).1 $$ S0
  ihave S1 := (stg_eq (F := F) c cc0_stg1_0 _).1 $$ S1
  ihave S2 := (stg_eq (F := F) c cc0_stg2_0 _).1 $$ S2
  ihave S3 := (stg_eq (F := F) c cc0_stg3_0 _).1 $$ S3
  ihave S4 := (stg_eq (F := F) c cc0_stg4_0 _).1 $$ S4
  ihave S5 := (stg_eq (F := F) c cc0_stg5_0 _).1 $$ S5
  ihave S6 := (stg_eq (F := F) c cc0_stg6_0 _).1 $$ S6
  ihave S7 := (stg_eq (F := F) c cc0_stg7_0 _).1 $$ S7
  ihave S8 := (stg_eq (F := F) c cc0_stg8_0 _).1 $$ S8
  ihave S9 := (stg_eq (F := F) c cc0_stg9_0 _).1 $$ S9
  ihave HΦ := (start_body m c) $$ HΦ
  icases HΦ with ⟨%K, HΦ⟩
  iapply (sound_body K (insAt m) c fun _ => bodyPost m c)
  isplitl [HΦ]; · iexact HΦ
  isplitl [HO]; · unfold ow; iexists W; iexact HO
  unfold stgs
  isplitl [S0 S1 S2 S3 S4 S5 S6 S7 S8]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [S9]; · iexists _; iexact S9
  iintro ⟨HE, HO, ⟨S0, S1, S2, S3, S4, S5, S6, S7, S8⟩, S9⟩
  unfold bodyPost ow Dat.owesAt Pipeline.owesWithin
  icases HO with ⟨%W', HO⟩
  isplitl [HE]; · iexact HE
  isplitl [HO]
  · iexists W'
    isplitr; · ipureintro; exact fun _ _ => Or.inl trivial
    iexact HO
  isplitl [S0]; · iapply (stg_eq (F := F) c cc0_stg0_0 _).2; iexact S0
  isplitl [S1]; · iapply (stg_eq (F := F) c cc0_stg1_0 _).2; iexact S1
  isplitl [S2]; · iapply (stg_eq (F := F) c cc0_stg2_0 _).2; iexact S2
  isplitl [S3]; · iapply (stg_eq (F := F) c cc0_stg3_0 _).2; iexact S3
  isplitl [S4]; · iapply (stg_eq (F := F) c cc0_stg4_0 _).2; iexact S4
  isplitl [S5]; · iapply (stg_eq (F := F) c cc0_stg5_0 _).2; iexact S5
  isplitl [S6]; · iapply (stg_eq (F := F) c cc0_stg6_0 _).2; iexact S6
  isplitl [S7]; · iapply (stg_eq (F := F) c cc0_stg7_0 _).2; iexact S7
  isplitl [S8]; · iapply (stg_eq (F := F) c cc0_stg8_0 _).2; iexact S8
  iapply (stg_eq (F := F) c cc0_stg9_0 _).2; iexact S9

set_option maxRecDepth 8000 in
/-- The library's body obligation on device `c`. -/
theorem body_obligation (c : Dev nD) : BodyObligation (dats (F := F) m 0 c) (defs₀ (F := F)) 𝒱₀ (0 : ℕ) Set.univ := fun t => by
  rw [fin_N0 t]
  rw [bigSep_W0, bigSep_W0]
  simp only [owns_whole_eq]
  exact sound_windows m c

/-! ## The run -/

/-- Every window is held whole. -/
theorem share_eq (c : Dev nD) (w : Fin cfg0.W) : (dats m 0 c).share w = fullShare := by unfold Dat.share; split <;> rfl

/-- What a device starts with. -/
theorem start_intro (c : Dev nD) :
    iprop(Pipeline.unscopedRestP Pipeline.Prefetch.none cfg0.spec c (fun b => m ((c : Thread nD τ).loc b)) ∗ levAts (SiteBlocks.L 20) SiteBlocks.lv
        ∗ Pipeline.launchCred (fun d => owed d dAll) c ∗ prngReg c (ρ c) ∗ G' m c)
      ⊢ |={Set.univ}=> iprop(start m c ∗ emp) := by
  iintro ⟨-, Hlev, Hcr, -, HG⟩
  ihave Hc := (credL_intro (F := F) c dAll) $$ Hcr
  imodintro
  unfold start
  isplitl
  · isplitl [HG]; · iexact HG
    isplitl [Hc]; · iexact Hc
    iexact Hlev
  · iempintro

/-- The body's start. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, HC, HU, HV⟩
  isplitl [Hs]; · iexact Hs
  isplitl [HC]; · iexact HC
  isplitl [HU] <;> iassumption

/-- The body's end. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = bodyEnd c from rfl, scopedRest0_eq, unscopedSems0_eq]
  unfold bodyEnd
  iintro ⟨HZ, HB, HC, HU, HV⟩
  isplitl [HB]; · iexact HB
  isplitl [HZ]; · iapply (exZero_own (F := F) c); iexact HZ
  isplitl [HC]; · iexact HC
  isplitl [HU] <;> iassumption

/-- The staging waits are below everything owed. -/
theorem waits (c : Dev nD) : (levAts (SiteBlocks.L 20) SiteBlocks.lv : sProp 𝕄) ⊢ Pipeline.cellsWaits cfgs (dats m) (0 : ℕ) 0 c :=
  Pipeline.cellsWaits_intro cfgs (dats m) (0 : ℕ) 0 c fun w s t => by
    rcases t with ⟨_ | _, ht⟩
    · exact mayWait_dues c _ 0 (by decide) dAll (by decide)
    · exact mayWait_dues c _ 0 (by decide) [] (fun x hx => by cases hx)

/-- What an array holds after the run. -/
def finalA (c : Dev nD) (w : Fin cfg0.W) : Buf (Elt F) ((cfg0.win w).arr.view.loc (c : Thread nD τ)) := (dats m 0 c).arrAt w cfg0.N

set_option maxRecDepth 8000 in
/-- The run of the four devices, for any float values and from any memory: it ends, the arrays hold what `finalA` says, and
    every semaphore is zero. -/
theorem run_raw : θ_run defs (onTc (τ := τ) (main (F := F))) (s₀ m ρ) (fun r =>
    (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owed d dAll) (howed₀ := fun _ => rfl) (howedN := fun _ => rfl)
    (L := SiteBlocks.L 20) (lv := SiteBlocks.lv) (hL := SiteBlocks.hL 20) (hwaits := waits m)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Argument 0 is unchanged. -/
theorem final0 (c : Dev nD) : finalA m c (0 : Fin 10) = m ((c : Thread nD τ).loc main_arg0) := (dats (F := F) m 0 c).arrAt_in (0 : Fin 10) rfl _
/-- Argument 1 is unchanged. -/
theorem final1 (c : Dev nD) : finalA m c (1 : Fin 10) = m ((c : Thread nD τ).loc main_arg1) := (dats (F := F) m 0 c).arrAt_in (1 : Fin 10) rfl _
/-- Argument 2 is unchanged. -/
theorem final2 (c : Dev nD) : finalA m c (2 : Fin 10) = m ((c : Thread nD τ).loc main_arg2) := (dats (F := F) m 0 c).arrAt_in (2 : Fin 10) rfl _
/-- Argument 3 is unchanged. -/
theorem final3 (c : Dev nD) : finalA m c (3 : Fin 10) = m ((c : Thread nD τ).loc main_arg3) := (dats (F := F) m 0 c).arrAt_in (3 : Fin 10) rfl _
/-- Argument 4 is unchanged. -/
theorem final4 (c : Dev nD) : finalA m c (4 : Fin 10) = m ((c : Thread nD τ).loc main_arg4) := (dats (F := F) m 0 c).arrAt_in (4 : Fin 10) rfl _
/-- Argument 5 is unchanged. -/
theorem final5 (c : Dev nD) : finalA m c (5 : Fin 10) = m ((c : Thread nD τ).loc main_arg5) := (dats (F := F) m 0 c).arrAt_in (5 : Fin 10) rfl _
/-- Argument 6 is unchanged. -/
theorem final6 (c : Dev nD) : finalA m c (6 : Fin 10) = m ((c : Thread nD τ).loc main_arg6) := (dats (F := F) m 0 c).arrAt_in (6 : Fin 10) rfl _
/-- Argument 7 is unchanged. -/
theorem final7 (c : Dev nD) : finalA m c (7 : Fin 10) = m ((c : Thread nD τ).loc main_arg7) := (dats (F := F) m 0 c).arrAt_in (7 : Fin 10) rfl _
/-- Argument 8 is unchanged. -/
theorem final8 (c : Dev nD) : finalA m c (8 : Fin 10) = m ((c : Thread nD τ).loc main_arg8) := (dats (F := F) m 0 c).arrAt_in (8 : Fin 10) rfl _
/-- The result array holds what the device computed. -/
theorem final9 (c : Dev nD) : finalA m c (9 : Fin 10) = result (insAt m) c := by
  unfold finalA
  refine (dats m 0 c).arrAt_eq_of_after_last 9 t0_0 (by decide +kernel) _ fun j => ?_
  blk_simp
  rfl

/-- The run of the four devices, argument by argument. -/
theorem run_main : θ_run defs (onTc (τ := τ) (main (F := F))) (s₀ m ρ) (fun r =>
    (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8)
      ∧ r.2.mem ((c : Thread nD τ).loc main_v1) = result (insAt m) c) ∧ r.2.sem = fun _ => 0) :=
  (θ_run defs _ _).mono (fun r h => ⟨fun c => ⟨(h.1 c (0 : Fin 10)).trans (final0 m c), (h.1 c (1 : Fin 10)).trans (final1 m c), (h.1 c (2 : Fin 10)).trans (final2 m c), (h.1 c (3 : Fin 10)).trans (final3 m c), (h.1 c (4 : Fin 10)).trans (final4 m c), (h.1 c (5 : Fin 10)).trans (final5 m c), (h.1 c (6 : Fin 10)).trans (final6 m c), (h.1 c (7 : Fin 10)).trans (final7 m c), (h.1 c (8 : Fin 10)).trans (final8 m c), (h.1 c (9 : Fin 10)).trans (final9 m c)⟩, h.2⟩) (run_raw m ρ)

end Cert.Butterfly

end
-- ==== Proof.Frames.lean ====
/-
# 01_k — the frames

Each program terminates, leaves its arguments unchanged and every semaphore at zero. The kernel's two texts are one, so both
frames are the same run, at bit patterns and at the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import Idealize.ShloMosaic.Adequacy
public import Idealize.ShloMosaic.Init

@[expose] public section

noncomputable section

namespace Cert.Butterfly

open Idealize.ShloMosaic Idealize.ShloMosaic.TcCoe Idealize.SL.Sem

section
open Cert.KernelIdeal
/-- The kernel, over any float values, leaves its arguments unchanged and every semaphore at zero. -/
theorem frame_any {F : FTy → Type} [FloatOps F] [Named F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => by
    obtain ⟨h0, h1, h2, h3, h4, h5, h6, h7, h8, -⟩ := h.1 c
    exact ⟨h0, h1, h2, h3, h4, h5, h6, h7, h8⟩, h.2⟩) (run_main (F := F) m g)
end

/-- The kernel over the extended reals leaves its arguments unchanged and every semaphore at zero. -/
theorem frame_ideal : Cert.quiescent_KernelIdeal := fun m ρ _ => frame_any (F := Ideal) m ρ

/-- Over bit patterns a named constant is the literal it names. -/
instance namedBits : Named Bits where
  named _ _ {φ} bits := Scalar.ofBits (F := Bits) φ bits

/-- The two texts of the kernel are one. -/
theorem texts_eq : Cert.Kernel.main (F := Bits) = Cert.KernelIdeal.main (F := Bits) := rfl
/-- The two body tables are one. -/
theorem bodies_eq : Cert.Kernel.defs₀ (F := Bits) = Cert.KernelIdeal.defs₀ (F := Bits) := by
  unfold Cert.Kernel.defs₀ Cert.KernelIdeal.defs₀
  congr 1
  funext l x
  match l with
  | 0 => rfl
/-- So are the two programs' tables. -/
theorem defs_eq : Cert.Kernel.defs (F := Bits) = Cert.KernelIdeal.defs (F := Bits) := by
  unfold Cert.Kernel.defs Cert.KernelIdeal.defs
  rw [bodies_eq]; rfl

/-- The kernel over bit patterns leaves its arguments unchanged and every semaphore at zero. -/
theorem frame_bits : Cert.quiescent_Kernel := fun m ρ _ => by
  rw [defs_eq, texts_eq]
  exact frame_any (F := Bits) m ρ

open Cert.ReferenceIdeal in
/-- The reference leaves its arguments unchanged; it has no semaphores. -/
theorem frame_reference : Cert.quiescent_ReferenceIdeal := by
  intro m ρ _
  refine (θ_run _ _ _).mono (fun r h => ⟨fun c => (h c).2, funext fun g => ?_⟩) (Cert.ReferenceIdeal.Value.run (F := Ideal) m ρ)
  rcases g with ⟨_, sm⟩
  rcases sm with ⟨⟨_, h⟩⟩ | ⟨⟨_, h⟩⟩ <;> exact absurd h (Nat.not_lt_zero _)

end Cert.Butterfly

end
-- ==== Proof.Math.lean ====
/-
# 01_k — the block's mathematics

The functions both programs compute, over the extended reals and free of any array's shape: the normalization of a row, one
attention head, the gate of the MLP, and the small laws between the two programs' spellings of them.
-/
module

public import Idealize.ShloMosaic.Lib.Pointwise
public import Idealize.ShloMosaic.Lib.IdealHost

@[expose] public section

noncomputable section

namespace Cert.Butterfly

open Idealize.ShloMosaic

/-- The number of features, as the programs' literal. -/
def nFeat : EReal := Ideal.ofBits .f32 0x44400000#32
/-- The term that keeps the variance away from zero. -/
def eps : EReal := ((2748779 / 274877906944 : ℝ) : EReal)
/-- The scale of the scores, as the programs' literal. -/
def scl : EReal := Ideal.ofBits .f32 0x3DD105EC#32
/-- What a row's maximum starts from. -/
def low : EReal := Ideal.ofBits .f32 0xFF800000#32

/-- The mean of a row. -/
def mean (f : Fin 768 → EReal) : EReal := Ideal.div (∑ k, f k) nFeat
/-- The variance of a row. -/
def vari (f : Fin 768 → EReal) : EReal := Ideal.div (∑ k, (f k - mean f) * (f k - mean f)) nFeat
/-- The normalized row. -/
def norm (f : Fin 768 → EReal) (d : Fin 768) : EReal := (f d - mean f) * Ideal.rsqrt (vari f + eps)
/-- The normalized row, scaled and shifted. -/
def modu (f a s : Fin 768 → EReal) (d : Fin 768) : EReal := norm f d * (1 + a d) + s d

/-- The scaled scores of a head. -/
def score (q k : Fin 512 → Fin 96 → EReal) (i j : Fin 512) : EReal := (∑ d, q i d * k j d) * scl
/-- A score row's weights before they are divided by their sum. -/
def wght (q k : Fin 512 → Fin 96 → EReal) (i j : Fin 512) : EReal :=
  Ideal.exp (score q k i j - Finset.univ.fold max low fun l => score q k i l)
/-- One head's output. -/
def head (q k v : Fin 512 → Fin 96 → EReal) (i : Fin 512) (d : Fin 96) : EReal :=
  Ideal.div (∑ j, wght q k i j * v j d) (∑ j, wght q k i j)
/-- The gate of the MLP. -/
def silu (h : EReal) : EReal := h * Ideal.div 1 (1 + Ideal.exp (0 - h))

/-! ## The literals -/

/-- The number of features is 768. -/
theorem nFeat_eq : nFeat = ((768 : ℝ) : EReal) := by
  simp [nFeat, Ideal.ofBits, Ideal.ieee, -EReal.coe_mul]; norm_num
/-- The term added to the variance is the f32 literal. -/
theorem eps_eq : Ideal.ofBits .f32 0x3727C5AC#32 = eps := by
  simp [eps, Ideal.ofBits, Ideal.ieee, -EReal.coe_mul]; norm_num

/-! ## Signs -/

/-- A square is not negative. -/
theorem sq_nonneg' (x : EReal) : 0 ≤ x * x := by
  rcases le_total 0 x with h | h
  · exact mul_nonneg h h
  · have := EReal.neg_le_neg_iff.mpr h
    rw [neg_zero] at this
    calc (0 : EReal) ≤ -x * -x := mul_nonneg this this
      _ = x * x := by rw [neg_mul_neg]
/-- A quotient of a nonnegative number by the number of features is nonnegative. -/
theorem div_nFeat_nonneg {x : EReal} (h : 0 ≤ x) : 0 ≤ Ideal.div x nFeat := by
  rw [nFeat_eq, Ideal.div_coe (by norm_num)]
  exact mul_nonneg h (by exact_mod_cast (by norm_num : (0:ℝ) ≤ 1 / 768))
/-- A variance is not negative. -/
theorem vari_nonneg (f : Fin 768 → EReal) : 0 ≤ vari f :=
  div_nFeat_nonneg (Finset.sum_nonneg fun _ _ => sq_nonneg' _)

/-- Dividing by the root is multiplying by the inverse root, of a positive number. -/
theorem div_sqrt {x v : EReal} (h : 0 < v) : Ideal.div x (Ideal.sqrt v) = x * Ideal.rsqrt v := by
  induction v with
  | bot => exact absurd h (by simp)
  | top => simp [Ideal.div]
  | coe r =>
    have hr : 0 < r := by exact_mod_cast h
    rw [Ideal.sqrt_coe, Ideal.rsqrt_coe, if_neg (not_lt.2 hr.le), if_neg (not_lt.2 hr.le), if_neg hr.ne',
      Ideal.div_coe (Real.sqrt_pos.2 hr).ne', one_div]
/-- The normalization with a division by the root. -/
theorem norm_eq (f : Fin 768 → EReal) (d : Fin 768) :
    Ideal.div (f d - mean f) (Ideal.sqrt (vari f + eps)) = norm f d := by
  have h : 0 < eps := by unfold eps; exact_mod_cast (by norm_num : (0:ℝ) < 2748779 / 274877906944)
  exact div_sqrt (lt_of_lt_of_le h (le_add_of_nonneg_left (vari_nonneg f)))

/-- An exponential is not negative. -/
theorem exp_nonneg' (x : EReal) : 0 ≤ Ideal.exp x := by
  induction x with
  | bot => simp
  | top => simp
  | coe r => rw [Ideal.exp_coe]; exact_mod_cast (Real.exp_pos r).le
/-- The gate with one division. -/
theorem silu_eq (h : EReal) : Ideal.div h (1 + Ideal.exp (-h)) = silu h := by
  have hd : (1 + Ideal.exp (-h)) ≠ 0 := (lt_of_lt_of_le zero_lt_one (le_add_of_nonneg_right (exp_nonneg' _))).ne'
  unfold silu
  rw [zero_sub]
  unfold Ideal.div
  rw [if_neg hd, if_neg hd, one_mul]

/-- A sum over four blocks of columns is the sum over all columns. -/
theorem sum_blocks {n N : ℕ} (h : 4 * n = N) (f : Fin N → EReal) :
    ∑ c : Fin 4, ∑ j : Fin n, f ⟨n * c.val + j.val, by have := c.isLt; have := j.isLt; nlinarith⟩ = ∑ k, f k := by
  subst h
  rw [← Fintype.sum_prod_type', ← finProdFinEquiv.sum_comp]
  exact Finset.sum_congr rfl fun p _ => congrArg f (Fin.ext (by simp [finProdFinEquiv, add_comm]))

end Cert.Butterfly

end
-- ==== Proof.KernelValue.lean ====
/-
# 01_k — what a device computes, entry by entry

Each array a device's program makes, read at an index over the extended reals, in the functions of the block's mathematics.
-/
module

public import proofs.«01_k».proof.Proof.Values
public import proofs.«01_k».proof.Proof.Math

@[expose] public section

set_option maxRecDepth 16384

noncomputable section

namespace Cert.Butterfly

open Cert.KernelIdeal Cert.KernelIdeal.Gen
open Idealize.ShloMosaic

/-- The kernel's named constant is the term added to the variance. -/
theorem eps_bf16 : Named.named (F := Ideal) κ "eps" (φ := .bf16) 0x3728#16 = eps := rfl
/-- So is the other one. -/
theorem eps_f32 : Named.named (F := Ideal) κ "eps" (φ := .f32) 0x3727C5AC#32 = eps := rfl

/-! ## The modulation -/

/-- The modulation vectors, one row per batch. -/
def modv (t : Vec Ideal S2x128 .bf16) (w : Vec Ideal S128x4608 .bf16) (b : Fin 2) (j : Fin 4608) : EReal :=
  ∑ k : Fin 128, t (ix2 b k) * w (ix2 k j)

/-- The modulation product. -/
theorem pay2_apply (t : Vec Ideal S2x128 .bf16) (w : Vec Ideal S128x4608 .bf16) (b : Fin 2) (j : Fin 4608) :
    k0_pay2 t w (ix2 b j) = modv t w b j := by
  pointwise [k0_pay2, modv]
/-- Its first sixth, as the first scale. -/
theorem pay3_apply (t : Vec Ideal S2x128 .bf16) (w : Vec Ideal S128x4608 .bf16) (b : Fin 2) (d : Fin 768) :
    k0_pay3 t w (ix3 b 0 d) = modv t w b ⟨d.val, by omega⟩ := by
  pointwise [k0_pay3, k0_pay2, modv]

/-- The rows after the first normalization and modulation. -/
theorem pay10_apply (a s : FVec Ideal S2x1x768 .f32) (x : Vec Ideal S2x512x768 .bf16) (r : Fin 1024) (d : Fin 768) :
    k0_pay10 a s x (ix2 r d)
      = modu (fun k => x (ix3 ⟨r.val / 512, by omega⟩ ⟨r.val % 512, by omega⟩ k)) (fun k => a (ix3 ⟨r.val / 512, by omega⟩ 0 k))
          (fun k => s (ix3 ⟨r.val / 512, by omega⟩ 0 k)) d := by
  pointwise [k0_pay10, k0_pay9]
  simp only [modu, norm, vari, mean, eps_bf16, nFeat]

/-- One head's rows of one batch in a device's array of queries, keys or values. -/
def hv (q : FVec Ideal S1024x384 .f32) (b h : ℕ) (hb : b < 2 := by decide) (hh : h < 4 := by decide) (i : Fin 512) (d : Fin 96) : EReal :=
  q (ix2 ⟨512 * b + i.val, by omega⟩ ⟨96 * h + d.val, by omega⟩)

/-- The outputs of one batch's rows, the heads side by side. -/
def heads (q k v : FVec Ideal S1024x384 .f32) (b : ℕ) (hb : b < 2) (i : Fin 512) (j : Fin 384) : EReal :=
  head (hv q b (j.val / 96) hb (by omega)) (hv k b (j.val / 96) hb (by omega)) (hv v b (j.val / 96) hb (by omega)) i ⟨j.val % 96, by omega⟩

/-- The outputs of one head. -/
theorem heads_at (q k v : FVec Ideal S1024x384 .f32) (b : ℕ) (hb : b < 2) (i : Fin 512) (j : Fin 384) (h : ℕ) (hh : h < 4) (d : Fin 96)
    (e : j.val = 96 * h + d.val) : head (hv q b h hb hh) (hv k b h hb hh) (hv v b h hb hh) i d = heads q k v b hb i j := by
  obtain rfl : h = j.val / 96 := by omega
  exact congrArg (head _ _ _ i) (Fin.ext (by show d.val = j.val % 96; omega))

section Heads
variable (n : FVec Ideal S1024x768 .bf16) (q k v : FVec Ideal S1024x384 .f32) (w : Vec Ideal S768x384 .bf16) (i : Fin 512) (d : Fin 96)

/-- Head 0 of the first batch. -/
theorem pay14_apply : k0_pay14 n q k w (ix2 i d) = head (hv q 0 0) (hv k 0 0) (hv (k0_pay13 n w) 0 0) i d := by
  pointwise [k0_pay14]
  simp only [head, wght, score, scl, low, hv, Nat.mul_zero, Nat.mul_one, Nat.zero_add, Nat.reduceMul]
/-- Head 1 of the first batch. -/
theorem pay15_apply : k0_pay15 n q k w (ix2 i d) = head (hv q 0 1) (hv k 0 1) (hv (k0_pay13 n w) 0 1) i d := by
  pointwise [k0_pay15]
  simp only [head, wght, score, scl, low, hv, Nat.mul_zero, Nat.mul_one, Nat.zero_add, Nat.reduceMul]
/-- Head 1 of the second batch. -/
theorem pay24_apply : k0_pay24 q k v (ix2 i d) = head (hv q 1 1) (hv k 1 1) (hv v 1 1) i d := by
  pointwise [k0_pay24]
  simp only [head, wght, score, scl, low, hv, Nat.mul_zero, Nat.mul_one, Nat.zero_add, Nat.reduceMul]
/-- Head 2 of the second batch. -/
theorem pay25_apply : k0_pay25 q k v (ix2 i d) = head (hv q 1 2) (hv k 1 2) (hv v 1 2) i d := by
  pointwise [k0_pay25]
  simp only [head, wght, score, scl, low, hv, Nat.mul_zero, Nat.mul_one, Nat.zero_add, Nat.reduceMul]
/-- Head 0 of the second batch. -/
theorem pay23_apply : k0_pay23 (k0_pay20 v) (k0_pay21 q k) (k0_pay22 q k) (ix2 i d) = head (hv q 1 0) (hv k 1 0) (hv v 1 0) i d := by
  pointwise [k0_pay23, k0_pay20, k0_pay21, k0_pay22]
  simp only [head, wght, score, scl, low, hv, Nat.mul_zero, Nat.mul_one, Nat.zero_add, Nat.reduceMul]
end Heads

section
variable (n : FVec Ideal S1024x768 .bf16) (q k v : FVec Ideal S1024x384 .f32) (w : Vec Ideal S768x384 .bf16) (i : Fin 512) (j : Fin 384) (d : Fin 768)
  (f0 f1 f2 : FVec Ideal S512x96 .f32) (a0 : FVec Ideal S512x384 .f32) (u : Vec Ideal S384x768 .bf16)
/-- The first batch's outputs, head by head. -/
theorem pay19_apply : k0_pay19 q k (k0_pay13 n w) (k0_pay14 n q k w) (k0_pay15 n q k w) (k0_pay16 q) (k0_pay17 k) (k0_pay18 n w) (ix2 i j)
    = heads q k (k0_pay13 n w) 0 (by decide) i j := by
  have hj := j.isLt
  have h4 : j.val / 96 = 0 ∨ j.val / 96 = 1 ∨ j.val / 96 = 2 ∨ j.val / 96 = 3 := by omega
  pointwise [k0_pay19, k0_pay16, k0_pay17, k0_pay18]
  rcases h4 with h4 | h4 | h4 | h4
  · refine (dif_pos (by omega)).trans ?_
    exact (pay14_apply _ _ _ _ _ _).trans (heads_at _ _ _ _ _ i j 0 (by decide) _ (by dsimp only; omega))
  · refine (dif_neg (by omega)).trans ((dif_pos (by omega)).trans ?_)
    exact (pay15_apply _ _ _ _ _ _).trans (heads_at _ _ _ _ _ i j 1 (by decide) _ (by dsimp only; omega))
  · refine (dif_neg (by omega)).trans ((dif_neg (by omega)).trans ((dif_pos (by omega)).trans ?_))
    refine Eq.trans ?_ (heads_at _ _ _ _ _ i j 2 (by decide) ⟨j.val - 96 - 96, by omega⟩ (by dsimp only; omega))
    simp only [head, wght, score, scl, low, hv, Nat.mul_zero, Nat.mul_one, Nat.zero_add, Nat.reduceMul]
  · refine (dif_neg (by omega)).trans ((dif_neg (by omega)).trans ((dif_neg (by omega)).trans ?_))
    refine Eq.trans ?_ (heads_at _ _ _ _ _ i j 3 (by decide) ⟨j.val - 96 - 96 - 96, by omega⟩ (by dsimp only; omega))
    simp only [head, wght, score, scl, low, hv, Nat.mul_zero, Nat.mul_one, Nat.zero_add, Nat.reduceMul]
/-- The last head of the second batch. -/
def lastHead (q k v : FVec Ideal S1024x384 .f32) : FVec Ideal S512x96 .f32 :=
  let e := exp (subf
    (mulf (matmul dot_S512x96_S512x96_S512x512_1_1_0_0_n_n none
        (truncf .bf16 (extractStridedSlice S512x96 ![512, 288] q slices_S1024x384_o512_288_S512x96) bitsLt_bf16_f32)
        (truncf .bf16 (extractStridedSlice S512x96 ![512, 288] k slices_S1024x384_o512_288_S512x96) bitsLt_bf16_f32)
        (constant S512x512 .f32 0x00000000#32)) (broadcast S512x512 (Scalar.ofBits .f32 0x3DD105EC#32)))
    (broadcastTo S512x512 (shapeCast S512x1 (multiReduction .maximumf [1] S512
      (mulf (matmul dot_S512x96_S512x96_S512x512_1_1_0_0_n_n none
        (truncf .bf16 (extractStridedSlice S512x96 ![512, 288] q slices_S1024x384_o512_288_S512x96) bitsLt_bf16_f32)
        (truncf .bf16 (extractStridedSlice S512x96 ![512, 288] k slices_S1024x384_o512_288_S512x96) bitsLt_bf16_f32)
        (constant S512x512 .f32 0x00000000#32)) (broadcast S512x512 (Scalar.ofBits .f32 0x3DD105EC#32)))
      0xFF800000#32 reduces_S512x512_S512 (.inl rfl) rfl) shapeCasts_S512_S512x1) broadcasts_S512x1_S512x512))
  divf (matmul dot_S512x512_S512x96_S512x96_1_0_0_1_n_n none (truncf .bf16 e bitsLt_bf16_f32)
      (truncf .bf16 (extractStridedSlice S512x96 ![512, 288] v slices_S1024x384_o512_288_S512x96) bitsLt_bf16_f32)
      (constant S512x96 .f32 0x00000000#32))
    (broadcastTo S512x96 (shapeCast S512x1 (multiReduction .add [1] S512 e 0x00000000#32 reduces_S512x512_S512 (.inl rfl) rfl)
      shapeCasts_S512_S512x1) broadcasts_S512x1_S512x96)
/-- The heads side by side. -/
def sides (f0 f1 f2 f3 : FVec Ideal S512x96 .f32) : FVec Ideal S512x384 .f32 :=
  concatenate S512x384 1 [⟨S512x96, f0⟩, ⟨S512x96, f1⟩, ⟨S512x96, f2⟩, ⟨S512x96, f3⟩] concatenates_S512x96_S512x96_S512x96_S512x96_S512x384_d1
/-- The two batches' outputs through the projection. -/
def proj (a0 a1 : FVec Ideal S512x384 .f32) (u : Vec Ideal S384x768 .bf16) : FVec Ideal S1024x768 .bf16 :=
  shapeCast S1024x768 (truncf .bf16 (matmul dot_S1024x384_S384x768_S1024x768_1_0_0_1_n_n none
    (truncf .bf16 (concatenate S1024x384 0 [⟨S512x384, a0⟩, ⟨S512x384, a1⟩] concatenates_S512x384_S512x384_S1024x384_d0) bitsLt_bf16_f32)
    (φ₂ := .bf16) (shapeCast S384x768 u shapeCasts_S384x768_S384x768) (constant S1024x768 .f32 0x00000000#32)) bitsLt_bf16_f32) shapeCasts_S1024x768_S1024x768

/-- The kernel's last step of the attention block, in these pieces. -/
theorem pay26_eq : k0_pay26 q k v a0 f0 f1 f2 u = proj a0 (sides f0 f1 f2 (lastHead q k v)) u := rfl
/-- The last head of the second batch. -/
theorem lastHead_apply (e : Fin 96) : lastHead q k v (ix2 i e) = head (hv q 1 3) (hv k 1 3) (hv v 1 3) i e := by
  pointwise [lastHead]
  simp only [head, wght, score, scl, low, hv, Nat.mul_zero, Nat.mul_one, Nat.zero_add, Nat.reduceMul]
/-- The projection of the first batch. -/
theorem proj_apply0 (a1 : FVec Ideal S512x384 .f32) : proj a0 a1 u (ix2 ⟨i.val, by omega⟩ d) = ∑ j : Fin 384, a0 (ix2 i j) * u (ix2 j d) := by
  pointwise [proj]
/-- The projection of the second batch. -/
theorem proj_apply1 (a1 : FVec Ideal S512x384 .f32) : proj a0 a1 u (ix2 ⟨512 + i.val, by omega⟩ d) = ∑ j : Fin 384, a1 (ix2 i j) * u (ix2 j d) := by
  pointwise [proj]
/-- The second batch's outputs, head by head. -/
theorem sides_apply (f3 : FVec Ideal S512x96 .f32) (h0 : ∀ e, f0 (ix2 i e) = head (hv q 1 0) (hv k 1 0) (hv v 1 0) i e)
    (h1 : ∀ e, f1 (ix2 i e) = head (hv q 1 1) (hv k 1 1) (hv v 1 1) i e)
    (h2 : ∀ e, f2 (ix2 i e) = head (hv q 1 2) (hv k 1 2) (hv v 1 2) i e)
    (h3 : ∀ e, f3 (ix2 i e) = head (hv q 1 3) (hv k 1 3) (hv v 1 3) i e) :
    sides f0 f1 f2 f3 (ix2 i j) = heads q k v 1 (by decide) i j := by
  have hj := j.isLt
  have h4 : j.val / 96 = 0 ∨ j.val / 96 = 1 ∨ j.val / 96 = 2 ∨ j.val / 96 = 3 := by omega
  pointwise [sides]
  rcases h4 with h4 | h4 | h4 | h4
  · exact (dif_pos (by omega)).trans ((h0 _).trans (heads_at _ _ _ _ _ i j 0 (by decide) _ (by dsimp only; omega)))
  · exact (dif_neg (by omega)).trans ((dif_pos (by omega)).trans ((h1 _).trans (heads_at _ _ _ _ _ i j 1 (by decide) _ (by dsimp only; omega))))
  · exact (dif_neg (by omega)).trans ((dif_neg (by omega)).trans ((dif_pos (by omega)).trans ((h2 _).trans
      (heads_at _ _ _ _ _ i j 2 (by decide) _ (by dsimp only; omega)))))
  · exact (dif_neg (by omega)).trans ((dif_neg (by omega)).trans ((dif_neg (by omega)).trans ((h3 _).trans
      (heads_at _ _ _ _ _ i j 3 (by decide) _ (by dsimp only; omega)))))
end

/-! ## The device's arrays -/

section
variable (I : Ins Ideal)

/-- The normalized and modulated activations of a device. -/
theorem hid_apply (r : Fin 1024) (d : Fin 768) : hid I (ix2 r d)
    = modu (fun k => I.x0 (ix3 ⟨r.val / 512, by omega⟩ ⟨r.val % 512, by omega⟩ k)) (fun k => modv I.x5 I.x6 ⟨r.val / 512, by omega⟩ ⟨k.val, by omega⟩)
        (fun k => modv I.x5 I.x6 ⟨r.val / 512, by omega⟩ ⟨768 + k.val, by omega⟩) d := by
  unfold hid
  rw [pay10_apply]
  pointwise [k0_pay3, k0_pay4, k0_pay2, modv]
/-- The queries of a device. -/
theorem qry_apply (r : Fin 1024) (c : Fin 384) : qry I (ix2 r c) = ∑ d : Fin 768, hid I (ix2 r d) * I.x1 (ix2 d c) := by
  unfold qry hid
  pointwise [k0_pay11]
/-- The keys of a device. -/
theorem key_apply (r : Fin 1024) (c : Fin 384) : key I (ix2 r c) = ∑ d : Fin 768, hid I (ix2 r d) * I.x2 (ix2 d c) := by
  unfold key hid
  pointwise [k0_pay12]
/-- The values of a device. -/
theorem val_apply (r : Fin 1024) (c : Fin 384) : val I (ix2 r c) = ∑ d : Fin 768, hid I (ix2 r d) * I.x3 (ix2 d c) := by
  unfold val
  pointwise [k0_pay13]
/-- A device's part of the attention block. -/
theorem part0_apply (b : Fin 2) (i : Fin 512) (d : Fin 768) : part0 I (ix2 ⟨512 * b.val + i.val, by omega⟩ d)
    = ∑ j : Fin 384, heads (qry I) (key I) (val I) b.val b.isLt i j * I.x4 (ix2 j d) := by
  unfold part0
  rw [pay26_eq]
  match b with
  | 0 =>
    simp only [Fin.val_zero, Nat.mul_zero, Nat.zero_add]
    rw [proj_apply0]
    exact Finset.sum_congr rfl fun j _ => congrArg (· * I.x4 (ix2 j d)) (pay19_apply (hid I) (qry I) (key I) I.x3 i j)
  | 1 =>
    simp only [Fin.val_one, Nat.mul_one]
    rw [proj_apply1]
    exact Finset.sum_congr rfl fun j _ => congrArg (· * I.x4 (ix2 j d)) (sides_apply _ _ _ i j _ _ _ _
      (fun e => pay23_apply _ _ _ _ _) (fun e => pay24_apply _ _ _ _ _) (fun e => pay25_apply _ _ _ _ _) (fun e => lastHead_apply _ _ _ _ _))

variable (s : Vec Ideal S1024x768 .bf16) (b : Fin 2) (i : Fin 512) (d : Fin 768)
/-- The activations after the attention block. -/
theorem mid_apply : mid I s (ix3 b i d)
    = I.x0 (ix3 b i d) + modv I.x5 I.x6 b ⟨1536 + d.val, by omega⟩ * s (ix2 ⟨512 * b.val + i.val, by omega⟩ d) := by
  unfold mid gate1
  pointwise [k0_pay32, k0_pay9, k0_pay5, k0_pay2, modv]
  simp only [Nat.mul_comm 512]
/-- The activations that enter the MLP. -/
def mlpIn (d : Fin 768) : EReal :=
  modu (fun k => mid I s (ix3 b i k)) (fun k => modv I.x5 I.x6 b ⟨2304 + k.val, by omega⟩) (fun k => modv I.x5 I.x6 b ⟨3072 + k.val, by omega⟩) d
/-- A device's part of the MLP block. -/
theorem part1_apply : part1 I s (ix2 ⟨512 * b.val + i.val, by omega⟩ d)
    = ∑ j : Fin 768, silu (∑ k : Fin 768, mlpIn I s b i k * I.x7 (ix2 k j)) * I.x8 (ix2 j d) := by
  unfold part1 mlpIn mid
  have h6 : ∀ k, k0_pay6 I.x5 I.x6 (ix3 b 0 k) = modv I.x5 I.x6 b ⟨2304 + k.val, by omega⟩ := fun k => by
    pointwise [k0_pay6, k0_pay2, modv]
  have h7 : ∀ k, k0_pay7 I.x5 I.x6 (ix3 b 0 k) = modv I.x5 I.x6 b ⟨3072 + k.val, by omega⟩ := fun k => by
    pointwise [k0_pay7, k0_pay2, modv]
  pointwise [k0_pay34, k0_pay33]
  simp only [h6, h7, silu, modu, norm, vari, mean, eps_bf16, eps_f32, nFeat]
/-- What a device writes. -/
theorem out_apply (y : FVec Ideal S2x512x768 .f32) : k0_pay1 (gate2 I) y s (ix3 b i d)
    = y (ix3 b i d) + modv I.x5 I.x6 b ⟨3840 + d.val, by omega⟩ * s (ix2 ⟨512 * b.val + i.val, by omega⟩ d) := by
  unfold gate2
  pointwise [k0_pay1, k0_pay8, k0_pay2, modv]
  simp only [Nat.mul_comm 512]
end

end Cert.Butterfly

end
-- ==== Proof.RefValue.lean ====
/-
# 01_k — what the reference computes, entry by entry

The reference's result, read at an index over the extended reals, in the functions of the block's mathematics.
-/
module

public import proofs.«01_k».proof.Proof.Gen.ReferenceIdeal
public import proofs.«01_k».proof.Proof.Gen.ReferenceIdeal.Run
public import Idealize.ShloMosaic.Lib.Tactic.CleanTypes
public import proofs.«01_k».proof.Proof.Math

@[expose] public section

set_option maxRecDepth 16384

noncomputable section

namespace Cert.Butterfly.Ref

open Cert.ReferenceIdeal Cert.ReferenceIdeal.Gen Cert.ReferenceIdeal.Value
open Idealize.ShloMosaic Idealize.ShloMosaic.TcCoe Idealize.SL.Sem

variable (V : Valuation τ sig (Elt Ideal))

/-- The arguments. -/
def g0 : FVec Ideal S2x512x768 .bf16 := V (Proc.devRef .tc main_arg0)
@[inherit_doc g0] def g1 : FVec Ideal S768x1536 .bf16 := V (Proc.devRef .tc main_arg1)
@[inherit_doc g0] def g2 : FVec Ideal S768x1536 .bf16 := V (Proc.devRef .tc main_arg2)
@[inherit_doc g0] def g3 : FVec Ideal S768x1536 .bf16 := V (Proc.devRef .tc main_arg3)
@[inherit_doc g0] def g4 : FVec Ideal S1536x768 .bf16 := V (Proc.devRef .tc main_arg4)
@[inherit_doc g0] def g5 : FVec Ideal S2x128 .bf16 := V (Proc.devRef .tc main_arg5)
@[inherit_doc g0] def g6 : FVec Ideal S128x4608 .bf16 := V (Proc.devRef .tc main_arg6)
@[inherit_doc g0] def g7 : FVec Ideal S768x3072 .bf16 := V (Proc.devRef .tc main_arg7)
@[inherit_doc g0] def g8 : FVec Ideal S3072x768 .bf16 := V (Proc.devRef .tc main_arg8)

/-- The modulation vectors, one row per batch. -/
def mo (b : Fin 2) (j : Fin 4608) : EReal := ∑ k : Fin 128, g5 V (ix2 b k) * g6 V (ix2 k j)
/-- The normalized and modulated activations. -/
def hd (b : Fin 2) (i : Fin 512) (d : Fin 768) : EReal :=
  modu (fun k => g0 V (ix3 b i k)) (fun k => mo V b ⟨k.val, by omega⟩) (fun k => mo V b ⟨768 + k.val, by omega⟩) d
/-- One head's rows of queries, keys or values, by their weights. -/
def rq (w : FVec Ideal S768x1536 .bf16) (b : Fin 2) (h : ℕ) (hh : h < 16) (i : Fin 512) (d : Fin 96) : EReal :=
  ∑ x : Fin 768, hd V b i x * w (ix2 x ⟨96 * h + d.val, by omega⟩)
/-- The outputs of all the heads side by side. -/
def ro (b : Fin 2) (i : Fin 512) (c : Fin 1536) : EReal :=
  head (rq V (g1 V) b (c.val / 96) (by omega)) (rq V (g2 V) b (c.val / 96) (by omega)) (rq V (g3 V) b (c.val / 96) (by omega)) i
    ⟨c.val % 96, by omega⟩
/-- The activations after the attention block. -/
def mi (b : Fin 2) (i : Fin 512) (d : Fin 768) : EReal :=
  g0 V (ix3 b i d) + mo V b ⟨1536 + d.val, by omega⟩ * ∑ c : Fin 1536, ro V b i c * g4 V (ix2 c d)
/-- The hidden layer of the MLP. -/
def ff (b : Fin 2) (i : Fin 512) (j : Fin 3072) : EReal :=
  ∑ k : Fin 768, modu (fun k => mi V b i k) (fun k => mo V b ⟨2304 + k.val, by omega⟩) (fun k => mo V b ⟨3072 + k.val, by omega⟩) k * g7 V (ix2 k j)
/-- The reference's result. -/
def final (b : Fin 2) (i : Fin 512) (d : Fin 768) : EReal :=
  mi V b i d + mo V b ⟨3840 + d.val, by omega⟩ * ∑ j : Fin 3072, silu (ff V b i j) * g8 V (ix2 j d)

/-- Nothing is taken off the number of features. -/
theorem sitofp_zero : (FloatOps.sitofp .f32 0#32 : Ideal .f32) = (0 : EReal) := by
  show (((0#32 : BitVec 32).toInt : ℝ) : EReal) = 0
  simp
/-- The number of features is positive. -/
theorem count_pos : (0 : EReal) < Ideal.ofBits .f32 0x44400000#32 - (FloatOps.sitofp .f32 0#32 : Ideal .f32) := by
  rw [sitofp_zero, sub_zero, show Ideal.ofBits .f32 0x44400000#32 = nFeat from rfl, nFeat_eq]
  exact_mod_cast (by norm_num : (0:ℝ) < 768)

/-- The activations, widened. -/
theorem v0_apply (b : Fin 2) (i : Fin 512) (d : Fin 768) : (res_main_v0 V : FVec Ideal S2x512x768 .f32) (ix3 b i d) = g0 V (ix3 b i d) := by
  unfold res_main_v0 g0; clean_types; pointwise []
/-- The modulation. -/
theorem v9_apply (b : Fin 2) (j : Fin 4608) : (res_main_v9 V : FVec Ideal S2x4608 .f32) (ix2 b j) = mo V b j := by
  unfold res_main_v9 mo g5 g6; clean_types; pointwise []
/-- The reference's normalization is the kernel's. -/
theorem norm_ref (f : Fin 768 → EReal) (d : Fin 768) (z : EReal) :
    Ideal.div (f d - Ideal.div (∑ x, f x) (Ideal.ofBits .f32 0x44400000#32))
      (Ideal.sqrt ((if 0 < Ideal.ofBits .f32 0x44400000#32 - (FloatOps.sitofp .f32 0#32 : Ideal .f32) then
        Ideal.div (∑ x, (f x - Ideal.div (∑ x, f x) (Ideal.ofBits .f32 0x44400000#32)) * (f x - Ideal.div (∑ x, f x) (Ideal.ofBits .f32 0x44400000#32)))
          (Ideal.ofBits .f32 0x44400000#32 - (FloatOps.sitofp .f32 0#32 : Ideal .f32)) else z) + Ideal.ofBits .f32 0x3727C5AC#32)) = norm f d := by
  rw [if_pos count_pos, sitofp_zero, sub_zero, eps_eq, ← norm_eq]
  rfl
/-- The normalized and modulated activations. -/
theorem v35_apply (b : Fin 2) (i : Fin 512) (d : Fin 768) : (res_main_v35 V : FVec Ideal S2x512x768 .f32) (ix3 b i d) = hd V b i d := by
  have hx : (fun k => (res_main_v0 V : FVec Ideal S2x512x768 .f32) (ix3 b i k)) = fun k => g0 V (ix3 b i k) := funext fun k => v0_apply V b i k
  have ha := fun j => v9_apply V b j
  unfold hd modu
  rw [← hx, ← norm_ref _ d ((constant S_ .f32 0x7FC00000#32 : FVec Ideal S_ .f32) ix0)]
  simp only [← ha]
  unfold res_main_v35 res_main_call0_v5 res_main_call0_v8; clean_types; pointwise []
  rfl
/-- The scores. -/
theorem v44_apply (b : Fin 2) (h : Fin 16) (i j : Fin 512) : (res_main_v44 V : FVec Ideal S2x16x512x512 .f32) (ix4 b h i j)
    = score (rq V (g1 V) b h.val h.isLt) (rq V (g2 V) b h.val h.isLt) i j := by
  have hh := fun i d => v35_apply V b i d
  unfold score rq g1 g2 scl
  simp only [← hh]
  unfold res_main_v44; clean_types; pointwise []
  simp only [Nat.mul_comm 96]
/-- The weights of a score row. -/
theorem v49_apply (b : Fin 2) (h : Fin 16) (i j : Fin 512) : (res_main_v49 V : FVec Ideal S2x16x512x512 .f32) (ix4 b h i j)
    = wght (rq V (g1 V) b h.val h.isLt) (rq V (g2 V) b h.val h.isLt) i j := by
  have hs := fun i j => v44_apply V b h i j
  unfold wght low
  simp only [← hs]
  unfold res_main_v49; clean_types; pointwise []
/-- One head's output, the values first. -/
theorem head_comm (q k v : Fin 512 → Fin 96 → EReal) (i : Fin 512) (d : Fin 96) :
    head q k v i d = Ideal.div (∑ j, v j d * wght q k i j) (∑ j, wght q k i j) := by
  unfold head
  exact congrArg (Ideal.div · _) (Finset.sum_congr rfl fun j _ => mul_comm _ _)
/-- The activations after the attention block. -/
theorem v62_apply (b : Fin 2) (i : Fin 512) (d : Fin 768) : (res_main_v62 V : FVec Ideal S2x512x768 .f32) (ix3 b i d) = mi V b i d := by
  have hh := fun i d => v35_apply V b i d
  have hw := fun c i j => v49_apply V b c i j
  have hx := v0_apply V b i d
  have ha := fun j => v9_apply V b j
  unfold mi ro
  have e : ∀ (c : Fin 1536) (x : Fin 512), rq V (g3 V) b (c.val / 96) (by omega) x ⟨c.val % 96, by omega⟩
      = ∑ y : Fin 768, HMul.hMul (α := EReal) (β := EReal) (γ := EReal) ((res_main_v35 V : FVec Ideal S2x512x768 .f32) (ix3 b x y)) (g3 V (ix2 y c)) := fun c x => by
    unfold rq
    refine Finset.sum_congr rfl fun y _ => ?_
    rw [hh]
    refine congrArg (fun c => hd V b x y * g3 V (ix2 y c)) (Fin.ext (by dsimp only; omega))
  have f : ∀ (c : Fin 1536) (x : Fin 512), wght (rq V (g1 V) b (c.val / 96) (by omega)) (rq V (g2 V) b (c.val / 96) (by omega)) i x
      = (res_main_v49 V : FVec Ideal S2x16x512x512 .f32) (ix4 b ⟨c.val / 96, by omega⟩ i x) := fun c x => (hw ⟨c.val / 96, by omega⟩ i x).symm
  simp only [head_comm, e, f, ← hx, ← ha]
  unfold res_main_v62 g3 g4; clean_types; pointwise []
/-- The hidden layer of the MLP. -/
theorem v83_apply (b : Fin 2) (i : Fin 512) (j : Fin 3072) : (res_main_v83 V : FVec Ideal S2x512x3072 .f32) (ix3 b i j) = ff V b i j := by
  have hx : (fun k => (res_main_v62 V : FVec Ideal S2x512x768 .f32) (ix3 b i k)) = fun k => mi V b i k := funext fun k => v62_apply V b i k
  have ha := fun j => v9_apply V b j
  unfold ff modu
  rw [← hx]
  simp only [← norm_ref _ _ ((constant S_ .f32 0x7FC00000#32 : FVec Ideal S_ .f32) ix0), ← ha]
  unfold res_main_v83 res_main_call1_v5 res_main_call1_v8 g7; clean_types; pointwise []
  rfl
/-- The result. -/
theorem v93_apply (b : Fin 2) (i : Fin 512) (d : Fin 768) :
    (addf (res_main_v62 V) (mulf (broadcastInDim S2x512x768 ![0, 1, 2] bcast_S2x1x768_S2x512x768_0_1_2 (broadcastInDim S2x1x768 ![0, 2] bcast_S2x768_S2x1x768_0_2 (extractStridedSlice S2x768 ![0, 3840] (res_main_v9 V) slices_S2x4608_S2x768_0_3840))) (Host.dotGeneral dot_S2x512x3072_S3072x768_S2x512x768_2_0_01_1_n_n none (Host.divf (res_main_v83 V) (addf (broadcastInDim S2x512x3072 ![] bcast_S_S2x512x3072 (constant S_ .f32 0x3F800000#32)) (Host.exp (Host.negf (res_main_v83 V))))) (extf .f32 (V (Proc.devRef .tc main_arg8)) bitsLt_bf16_f32))) : FVec Ideal S2x512x768 .f32) (ix3 b i d)
      = final V b i d := by
  have hx := v62_apply V b i d
  have ha := fun j => v9_apply V b j
  have hf := fun j => v83_apply V b i j
  unfold final
  simp only [← hx, ← ha, ← silu_eq, ← hf]
  unfold g8; clean_types; pointwise []

end Cert.Butterfly.Ref

end
-- ==== Proof.Equal.lean ====
/-
# 01_k — the kernel's value is the reference's

Each device's parts of the two products are blocks of the reference's sums, the all-reduce adds the four of them up, and what
a device writes is therefore the reference's result.
-/
module

public import proofs.«01_k».proof.Proof.KernelValue
public import proofs.«01_k».proof.Proof.RefValue

@[expose] public section

noncomputable section

namespace Cert.Butterfly

open Cert.KernelIdeal Cert.KernelIdeal.Gen
open Idealize.ShloMosaic Idealize.SL.Sem
open Ref

/-! ## The all-reduce -/

/-- Over the extended reals the addition as stored is the sum. -/
theorem acc_ideal (a b : Ideal .bf16) : acc a b = (a + b : EReal) := rfl
/-- What all four devices hold after the exchanges, entry by entry, is the sum of their parts. -/
theorem AF_sum (P : Dev nD → CB Ideal) (i : S1024x768.Idx) (f : Fin 4 → EReal) (hf : ∀ c : Fin 4, P c i = f c) : AF P i = ∑ c : Fin 4, f c := by
  have x0 : pX (0 : Fin 4) = (1 : Fin 4) := by decide
  have x1 : pX (1 : Fin 4) = (0 : Fin 4) := by decide
  have x2 : pX (2 : Fin 4) = (3 : Fin 4) := by decide
  have x3 : pX (3 : Fin 4) = (2 : Fin 4) := by decide
  have m0 : pM (0 : Fin 4) = (3 : Fin 4) := by decide
  have m1 : pM (1 : Fin 4) = (2 : Fin 4) := by decide
  have m2 : pM (2 : Fin 4) = (1 : Fin 4) := by decide
  have m3 : pM (3 : Fin 4) = (0 : Fin 4) := by decide
  rw [Fin.sum_univ_four]
  unfold AF A2 A1 owner
  split_ifs <;> simp only [x0, x1, x2, x3, m0, m1, m2, m3, hf, acc_ideal] <;> ac_rfl

/-! ## A device against the whole -/

variable (V : Valuation Cert.ReferenceIdeal.τ Cert.ReferenceIdeal.sig (Elt Ideal)) (I : Dev nD → Ins Ideal)

/-- The devices' arguments are their parts of the reference's. -/
structure Same : Prop where
  h0 : ∀ c, (I c).x0 = g0 V
  h1 : ∀ (c : Fin 4) (r : Fin 768) (j : Fin 384), (I c).x1 (ix2 r j) = g1 V (ix2 r ⟨384 * c.val + j.val, by omega⟩)
  h2 : ∀ (c : Fin 4) (r : Fin 768) (j : Fin 384), (I c).x2 (ix2 r j) = g2 V (ix2 r ⟨384 * c.val + j.val, by omega⟩)
  h3 : ∀ (c : Fin 4) (r : Fin 768) (j : Fin 384), (I c).x3 (ix2 r j) = g3 V (ix2 r ⟨384 * c.val + j.val, by omega⟩)
  h4 : ∀ (c : Fin 4) (j : Fin 384) (d : Fin 768), (I c).x4 (ix2 j d) = g4 V (ix2 ⟨384 * c.val + j.val, by omega⟩ d)
  h5 : ∀ c, (I c).x5 = g5 V
  h6 : ∀ c, (I c).x6 = g6 V
  h7 : ∀ (c : Fin 4) (r j : Fin 768), (I c).x7 (ix2 r j) = g7 V (ix2 r ⟨768 * c.val + j.val, by omega⟩)
  h8 : ∀ (c : Fin 4) (j d : Fin 768), (I c).x8 (ix2 j d) = g8 V (ix2 ⟨768 * c.val + j.val, by omega⟩ d)

section
variable {V I} (H : Same V I) (c : Fin 4) (b : Fin 2) (i : Fin 512) (d : Fin 768)
include H

/-- The modulation is the reference's. -/
theorem modv_eq (j : Fin 4608) : modv (I c).x5 (I c).x6 b j = mo V b j := by
  rw [H.h5, H.h6]; rfl
/-- So are the normalized activations. -/
theorem hid_eq : hid (I c) (ix2 ⟨512 * b.val + i.val, by omega⟩ d) = hd V b i d := by
  have e : ∀ p, (⟨(512 * b.val + i.val) / 512, p⟩ : Fin 2) = b := fun p => Fin.ext (by dsimp only; omega)
  have f : ∀ p, (⟨(512 * b.val + i.val) % 512, p⟩ : Fin 512) = i := fun p => Fin.ext (by dsimp only; omega)
  rw [hid_apply]
  simp only [e, f, H.h0, modv_eq H]
  rfl
/-- A device's head of queries is a head of the reference's. -/
theorem qry_eq (h : ℕ) (hh : h < 4) : hv (qry (I c)) b.val h b.isLt hh = rq V (g1 V) b (4 * c.val + h) (by omega) := by
  funext i d
  unfold hv rq
  rw [qry_apply]
  refine Finset.sum_congr rfl fun k _ => ?_
  rw [hid_eq H, H.h1]
  exact congrArg (fun z => hd V b i k * g1 V (ix2 k z)) (Fin.ext (by dsimp only; omega))
/-- The same for the keys. -/
theorem key_eq (h : ℕ) (hh : h < 4) : hv (key (I c)) b.val h b.isLt hh = rq V (g2 V) b (4 * c.val + h) (by omega) := by
  funext i d
  unfold hv rq
  rw [key_apply]
  refine Finset.sum_congr rfl fun k _ => ?_
  rw [hid_eq H, H.h2]
  exact congrArg (fun z => hd V b i k * g2 V (ix2 k z)) (Fin.ext (by dsimp only; omega))
/-- The same for the values. -/
theorem val_eq (h : ℕ) (hh : h < 4) : hv (val (I c)) b.val h b.isLt hh = rq V (g3 V) b (4 * c.val + h) (by omega) := by
  funext i d
  unfold hv rq
  rw [val_apply]
  refine Finset.sum_congr rfl fun k _ => ?_
  rw [hid_eq H, H.h3]
  exact congrArg (fun z => hd V b i k * g3 V (ix2 k z)) (Fin.ext (by dsimp only; omega))
omit H in
/-- The reference's outputs, by head. -/
theorem ro_at (k : Fin 1536) (h : ℕ) (hh : h < 16) (e : Fin 96) (hk : k.val = 96 * h + e.val) :
    head (rq V (g1 V) b h hh) (rq V (g2 V) b h hh) (rq V (g3 V) b h hh) i e = ro V b i k := by
  obtain rfl : h = k.val / 96 := by omega
  exact congrArg (head _ _ _ i) (Fin.ext (by show e.val = k.val % 96; omega))
/-- A device's heads are its four of the reference's sixteen. -/
theorem heads_eq (j : Fin 384) : heads (qry (I c)) (key (I c)) (val (I c)) b.val b.isLt i j = ro V b i ⟨384 * c.val + j.val, by omega⟩ := by
  unfold heads
  rw [qry_eq H, key_eq H, val_eq H]
  exact ro_at _ _ _ _ _ _ (by dsimp only; omega)
/-- A device's part of the attention block is a part of the reference's sum. -/
theorem part0_eq : part0 (I c) (ix2 ⟨512 * b.val + i.val, by omega⟩ d)
    = ∑ j : Fin 384, ro V b i ⟨384 * c.val + j.val, by omega⟩ * g4 V (ix2 ⟨384 * c.val + j.val, by omega⟩ d) := by
  rw [part0_apply]
  exact Finset.sum_congr rfl fun j _ => by rw [heads_eq H, H.h4]
/-- The first all-reduce ends at the reference's sum. -/
theorem sum0_eq : AF (parts I 0) (ix2 ⟨512 * b.val + i.val, by omega⟩ d) = ∑ k : Fin 1536, ro V b i k * g4 V (ix2 k d) := by
  rw [← sum_blocks (n := 384) rfl fun k : Fin 1536 => ro V b i k * g4 V (ix2 k d)]
  exact AF_sum _ _ _ fun c => part0_eq H c b i d
/-- The activations after the attention block are the reference's. -/
theorem mid_eq : mid (I c) (AF (parts I 0)) (ix3 b i d) = mi V b i d := by
  rw [mid_apply, sum0_eq H, modv_eq H, H.h0]; rfl
/-- A device's part of the MLP block is a part of the reference's sum. -/
theorem part1_eq : part1 (I c) (AF (parts I 0)) (ix2 ⟨512 * b.val + i.val, by omega⟩ d)
    = ∑ j : Fin 768, silu (ff V b i ⟨768 * c.val + j.val, by omega⟩) * g8 V (ix2 ⟨768 * c.val + j.val, by omega⟩ d) := by
  rw [part1_apply]
  refine Finset.sum_congr rfl fun j _ => ?_
  rw [H.h8]
  refine congrArg (fun z => silu z * _) (Finset.sum_congr rfl fun k _ => ?_)
  unfold mlpIn
  simp only [mid_eq H, modv_eq H, H.h7]
/-- The second all-reduce ends at the reference's sum. -/
theorem sum1_eq : AF (parts I 1) (ix2 ⟨512 * b.val + i.val, by omega⟩ d) = ∑ k : Fin 3072, silu (ff V b i k) * g8 V (ix2 k d) := by
  rw [← sum_blocks (n := 768) rfl fun k : Fin 3072 => silu (ff V b i k) * g8 V (ix2 k d)]
  exact AF_sum _ _ _ fun c => part1_eq H c b i d
/-- What a device writes is the reference's result. -/
theorem result_eq : result I c (ix3 b i d) = final V b i d := by
  unfold result
  rw [out_apply, mid_eq H, sum1_eq H, modv_eq H]
  rfl
end

end Cert.Butterfly

end
-- ==== Proof.Claims.lean ====
/-
# 01_k — the two claims about values

Naming the kernel's constant changes nothing else, and over the extended reals every device ends with the reference's result.
-/
module

public import proofs.«01_k».proof.Proof.Frames
public import proofs.«01_k».proof.Proof.Equal
public import Idealize.ShloMosaic.Lib.LayoutAt

@[expose] public section

noncomputable section

namespace Cert.Butterfly

open Idealize.ShloMosaic Idealize.ShloMosaic.TcCoe Idealize.SL.Sem

/-- The literals the name stands for in the idealized kernel are constants at the extended reals. -/
theorem preserves : Cert.preserves_Kernel_KernelIdeal :=
  ⟨IdealRules.named_const.statement Cert.KernelIdeal.κ "eps" .bf16 0x3728#16 _ rfl,
    IdealRules.named_const.statement Cert.KernelIdeal.κ "eps" .f32 0x3727C5AC#32 _ rfl⟩

/-- A block of columns, entry by entry. -/
theorem cols_apply {α : Type} {n m N : ℕ} (h : Layout.Tiles ⟨2, ![n, m]⟩ ⟨2, ![n, N]⟩ 1 4) (v : (⟨2, ![n, N]⟩ : Shape).Idx → α) (c : Fin 4)
    (r : Fin n) (j : Fin m) (p) : Layout.block ⟨2, ![n, m]⟩ ⟨2, ![n, N]⟩ 1 4 c v h (ix2 r j) = v (ix2 r ⟨m * c.val + j.val, p⟩) := by
  rw [Layout.block_apply]
  refine congrArg v (funext fun a => Fin.ext ?_)
  match a with
  | 0 => exact (Layout.idx_cols_val h c (ix2 r j)).1
  | 1 => exact (Layout.idx_cols_val h c (ix2 r j)).2.trans (congrArg (· + j.val) (Nat.mul_comm c.val m))
/-- A block of rows, entry by entry. -/
theorem rows_apply {α : Type} {n m N : ℕ} (h : Layout.Tiles ⟨2, ![n, m]⟩ ⟨2, ![N, m]⟩ 0 4) (v : (⟨2, ![N, m]⟩ : Shape).Idx → α) (c : Fin 4)
    (r : Fin n) (j : Fin m) (p) : Layout.block ⟨2, ![n, m]⟩ ⟨2, ![N, m]⟩ 0 4 c v h (ix2 r j) = v (ix2 ⟨n * c.val + r.val, p⟩ j) := by
  rw [Layout.block_apply]
  refine congrArg v (funext fun a => Fin.ext ?_)
  match a with
  | 0 => exact (Layout.idx_rows_val h c (ix2 r j)).1.trans (congrArg (· + r.val) (Nat.mul_comm c.val n))
  | 1 => exact (Layout.idx_rows_val h c (ix2 r j)).2

/-- Over the extended reals every device of the kernel ends with the reference's result. -/
theorem algebraic : Cert.algebraic_KernelIdeal_ReferenceIdeal := by
  intro m ρ m' ρ' _ hm
  have H : Same (StableHlo.launchContents m' 0) (insAt m) :=
    { h0 := fun c => (hm c).1
      h1 := fun c r j => (congrFun (hm c).2.1 (ix2 r j)).trans (cols_apply _ _ _ _ _ _)
      h2 := fun c r j => (congrFun (hm c).2.2.1 (ix2 r j)).trans (cols_apply _ _ _ _ _ _)
      h3 := fun c r j => (congrFun (hm c).2.2.2.1 (ix2 r j)).trans (cols_apply _ _ _ _ _ _)
      h4 := fun c j d => (congrFun (hm c).2.2.2.2.1 (ix2 j d)).trans (rows_apply _ _ _ _ _ _)
      h5 := fun c => (hm c).2.2.2.2.2.1
      h6 := fun c => (hm c).2.2.2.2.2.2.1
      h7 := fun c r j => (congrFun (hm c).2.2.2.2.2.2.2.1 (ix2 r j)).trans (cols_apply _ _ _ _ _ _)
      h8 := fun c j d => (congrFun (hm c).2.2.2.2.2.2.2.2 (ix2 j d)).trans (rows_apply _ _ _ _ _ _) }
  refine ⟨_, (θ_run _ _ _).mono (fun r h c => ?_) (run_main (F := Ideal) m ρ),
    (θ_run _ _ _).mono (fun r h => h 0) (Cert.ReferenceIdeal.Value.run (F := Ideal) m' ρ')⟩
  obtain ⟨h0, h1, h2, h3, h4, h5, h6, h7, h8, h9⟩ := h.1 c
  refine ⟨h9.trans ?_, h0, h1, h2, h3, h4, h5, h6, h7, h8⟩
  funext i
  idx_vars i
  exact (result_eq H c _ _ _).trans (Ref.v93_apply _ _ _ _).symm

end Cert.Butterfly

end
-- ==== Proof.lean ====
/-
# 01_k — the claims

The three frames, that the idealized kernel is the kernel over the extended reals, and that it computes the reference's function.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The claims. -/
theorem claim : Cert.Claim := ⟨Cert.Kernel.Gen.facts, Cert.KernelIdeal.Gen.facts, Cert.ReferenceIdeal.Gen.facts,
  Cert.Butterfly.frame_bits, Cert.Butterfly.frame_ideal, Cert.Butterfly.frame_reference, Cert.Butterfly.preserves, Cert.Butterfly.algebraic⟩

end Cert.Proof

end
